-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok_KernelIdeal [hPre_inputs_ok_KernelIdeal : Cert.Pre_inputs_ok_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok_ReferenceIdeal [hPre_inputs_ok_ReferenceIdeal : Cert.Pre_inputs_ok_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_ok_KernelIdeal [hKernelIdeal : Cert.KernelIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_ok_ReferenceIdeal [hReferenceIdeal : Cert.ReferenceIdeal.Facts] [hPre_inputs_ok_ReferenceIdeal : Cert.Pre_inputs_ok_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_ok_KernelIdeal [hKernelIdeal : Cert.KernelIdeal.Facts] [hReferenceIdeal : Cert.ReferenceIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_ok_KernelIdeal : Cert.Pre_inputs_ok_KernelIdeal.Facts) (hPre_inputs_ok_ReferenceIdeal : Cert.Pre_inputs_ok_ReferenceIdeal.Facts),
    quiescent_Kernel (hKernel := hKernel)
    ∧ quiescent_KernelIdeal (hKernelIdeal := hKernelIdeal)
    ∧ quiescent_KernelIdeal_pre_inputs_ok_KernelIdeal (hKernelIdeal := hKernelIdeal) (hPre_inputs_ok_KernelIdeal := hPre_inputs_ok_KernelIdeal)
    ∧ quiescent_ReferenceIdeal (hReferenceIdeal := hReferenceIdeal)
    ∧ quiescent_ReferenceIdeal_pre_inputs_ok_ReferenceIdeal (hReferenceIdeal := hReferenceIdeal) (hPre_inputs_ok_ReferenceIdeal := hPre_inputs_ok_ReferenceIdeal)
    ∧ preserves_Kernel_KernelIdeal
    ∧ algebraic_KernelIdeal_ReferenceIdeal_pre_inputs_ok_KernelIdeal (hKernelIdeal := hKernelIdeal) (hReferenceIdeal := hReferenceIdeal) (hPre_inputs_ok_KernelIdeal := hPre_inputs_ok_KernelIdeal)
-- ==== Pre_inputs_ok_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v15 : IVec S_ 1) (main_v16 : IVec S_ 1) : IVec S_ 1 :=
  let main_v17 : IVec S_ 1 := andi main_v16 main_v15
  main_v17

def fn {F : FTy → Type} [FloatOps F] (main_arg0 : FVec F S256x512 .bf16) (main_arg1 : FVec F S512x4096 .bf16) (main_arg2 : IVec S256 32) : IVec S_ 1 :=
  let main_v0 : FVec F S256x512 .f32 := (extf .f32 · bitsLt_bf16_f32) main_arg0
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  let main_c : IVec S_ 1 := constantI S_ 1 1#1
  let main_v4 : IVec S_ 1 := (fun x v => Host.reduce IntOp.andi x v reducesTo_S256x512_S_d0_1 h_S_) main_v3 main_c
  let main_v5 : FVec F S512x4096 .f32 := (extf .f32 · bitsLt_bf16_f32) main_arg1
  let main_v6 : FVec F S512x4096 .f32 := Host.absf main_v5
  let main_cst_0 : FVec F S_ .f32 := constant S_ .f32 0x7F800000#32
  let main_v7 : FVec F S512x4096 .f32 := broadcastInDim S512x4096 ![] bcast_S_S512x4096 main_cst_0
  let main_v8 : IVec S512x4096 1 := cmpf .olt main_v6 main_v7
  let main_c_1 : IVec S_ 1 := constantI S_ 1 1#1
  let main_v9 : IVec S_ 1 := (fun x v => Host.reduce IntOp.andi x v reducesTo_S512x4096_S_d0_1 h_S_) main_v8 main_c_1
  let main_c_2 : IVec S_ 32 := constantI S_ 32 0#32
  let main_v10 : IVec S256 32 := broadcastInDim S256 ![] bcast_S_S256 main_c_2
  let main_v11 : IVec S256 1 := cmpi .sge main_arg2 main_v10
  let main_c_3 : IVec S_ 32 := constantI S_ 32 32768#32
  let main_v12 : IVec S256 32 := broadcastInDim S256 ![] bcast_S_S256 main_c_3
  let main_v13 : IVec S256 1 := cmpi .slt main_arg2 main_v12
  let main_v14 : IVec S256 1 := andi main_v11 main_v13
  let main_c_4 : IVec S_ 1 := constantI S_ 1 1#1
  let main_v15 : IVec S_ 1 := (fun x v => Host.reduce IntOp.andi x v reducesTo_S256_S_d0 h_S_) main_v14 main_c_4
  let main_v16 : IVec S_ 1 := andi main_v4 main_v9
  fn_part1 (F := F) main_v15 main_v16
-- ==== Pre_inputs_ok_ReferenceIdeal.lean ====
abbrev S256x512 : Shape := ⟨2, ![256, 512]⟩
abbrev S512x32768 : Shape := ⟨2, ![512, 32768]⟩
abbrev S256 : Shape := ⟨1, ![256]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S512x32768 : S_.BroadcastsInDim S512x32768 (![] : Fin 0 → Fin S512x32768.rank)
  reducesTo_S512x32768_S_d0_1 : S512x32768.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v15 : IVec S_ 1) (main_v16 : IVec S_ 1) : IVec S_ 1 :=
  let main_v17 : IVec S_ 1 := andi main_v16 main_v15
  main_v17

def fn {F : FTy → Type} [FloatOps F] (main_arg0 : FVec F S256x512 .bf16) (main_arg1 : FVec F S512x32768 .bf16) (main_arg2 : IVec S256 32) : IVec S_ 1 :=
  let main_v0 : FVec F S256x512 .f32 := (extf .f32 · bitsLt_bf16_f32) main_arg0
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  let main_c : IVec S_ 1 := constantI S_ 1 1#1
  let main_v4 : IVec S_ 1 := (fun x v => Host.reduce IntOp.andi x v reducesTo_S256x512_S_d0_1 h_S_) main_v3 main_c
  let main_v5 : FVec F S512x32768 .f32 := (extf .f32 · bitsLt_bf16_f32) main_arg1
  let main_v6 : FVec F S512x32768 .f32 := Host.absf main_v5
  let main_cst_0 : FVec F S_ .f32 := constant S_ .f32 0x7F800000#32
  let main_v7 : FVec F S512x32768 .f32 := broadcastInDim S512x32768 ![] bcast_S_S512x32768 main_cst_0
  let main_v8 : IVec S512x32768 1 := cmpf .olt main_v6 main_v7
  let main_c_1 : IVec S_ 1 := constantI S_ 1 1#1
  let main_v9 : IVec S_ 1 := (fun x v => Host.reduce IntOp.andi x v reducesTo_S512x32768_S_d0_1 h_S_) main_v8 main_c_1
  let main_c_2 : IVec S_ 32 := constantI S_ 32 0#32
  let main_v10 : IVec S256 32 := broadcastInDim S256 ![] bcast_S_S256 main_c_2
  let main_v11 : IVec S256 1 := cmpi .sge main_arg2 main_v10
  let main_c_3 : IVec S_ 32 := constantI S_ 32 32768#32
  let main_v12 : IVec S256 32 := broadcastInDim S256 ![] bcast_S_S256 main_c_3
  let main_v13 : IVec S256 1 := cmpi .slt main_arg2 main_v12
  let main_v14 : IVec S256 1 := andi main_v11 main_v13
  let main_c_4 : IVec S_ 1 := constantI S_ 1 1#1
  let main_v15 : IVec S_ 1 := (fun x v => Host.reduce IntOp.andi x v reducesTo_S256_S_d0 h_S_) main_v14 main_c_4
  let main_v16 : IVec S_ 1 := andi main_v4 main_v9
  fn_part1 (F := F) main_v15 main_v16
-- ==== Kernel.lean ====
abbrev S256x512 : Shape := ⟨2, ![256, 512]⟩
abbrev S512x4096 : Shape := ⟨2, ![512, 4096]⟩
abbrev S256 : Shape := ⟨1, ![256]⟩
abbrev S8x2x256 : Shape := ⟨3, ![8, 2, 256]⟩
abbrev S8 : Shape := ⟨1, ![8]⟩
abbrev S_ : Shape := ⟨0, ![]⟩
abbrev S4096x256 : Shape := ⟨2, ![4096, 256]⟩
abbrev S1x256 : Shape := ⟨2, ![1, 256]⟩
abbrev S2x256 : Shape := ⟨2, ![2, 256]⟩
abbrev S1x2x256 : Shape := ⟨3, ![1, 2, 256]⟩
abbrev S1 : Shape := ⟨1, ![1]⟩
abbrev S8x1x256 : Shape := ⟨3, ![8, 1, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256, .i32⟩
  | .hbm, ⟨3, _⟩ => ⟨S256, .f32⟩
  | .local _ .vmem, ⟨0, _⟩ => ⟨S256x512, .bf16⟩
  | .local _ .vmem, ⟨1, _⟩ => ⟨S512x4096, .bf16⟩
  | .local _ .vmem, ⟨2, _⟩ => ⟨S256, .i32⟩
  | .local _ .vmem, ⟨3, _⟩ => ⟨S256, .f32⟩
  | .local _ .vmem, ⟨4, _⟩ => ⟨S8x2x256, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v120 : BitVec 32 := Scalar.addi v2 c4_i32_74
  let c8_i32_75 : BitVec 32 := 8#32
  let c0_i32_76 : BitVec 32 := 0#32
  let v121 : BitVec 1 := Scalar.cmpi .eq c8_i32_75 c0_i32_76
  let c1_i32_77 : BitVec 32 := 1#32
  let v122 : BitVec 32 := Scalar.select v121 c1_i32_77 c8_i32_75
  let v123 : BitVec 32 := Scalar.remsi v120 v122
  let c0_i32_79 : BitVec 32 := 0#32
  let v125 : BitVec 1 := Scalar.cmpi .slt v123 c0_i32_79
  let c0_i32_80 : BitVec 32 := 0#32
  let v126 : BitVec 1 := Scalar.cmpi .slt v122 c0_i32_80
  let v127 : BitVec 1 := Scalar.xori v125 v126
  let c0_i32_78 : BitVec 32 := 0#32
  let v124 : BitVec 1 := Scalar.cmpi .ne v123 c0_i32_78
  let v128 : BitVec 1 := Scalar.andi v127 v124
  let v129 : BitVec 32 := Scalar.addi v123 v122
  let v130 : BitVec 32 := Scalar.select v128 v129 v123
  let c1_i32_85 : BitVec 32 := 1#32
  let v131 : BitVec 32 := Scalar.muli v130 c1_i32_85
  let v132 : BitVec 32 := Scalar.addi c0_i32_86 v131
  v132.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v141 : BitVec 32 := Scalar.addi v2 c3_i32_91
  let c8_i32_92 : BitVec 32 := 8#32
  let c0_i32_93 : BitVec 32 := 0#32
  let v142 : BitVec 1 := Scalar.cmpi .eq c8_i32_92 c0_i32_93
  let c1_i32_94 : BitVec 32 := 1#32
  let v143 : BitVec 32 := Scalar.select v142 c1_i32_94 c8_i32_92
  let v144 : BitVec 32 := Scalar.remsi v141 v143
  let c0_i32_96 : BitVec 32 := 0#32
  let v146 : BitVec 1 := Scalar.cmpi .slt v144 c0_i32_96
  let c0_i32_97 : BitVec 32 := 0#32
  let v147 : BitVec 1 := Scalar.cmpi .slt v143 c0_i32_97
  let v148 : BitVec 1 := Scalar.xori v146 v147
  let c0_i32_95 : BitVec 32 := 0#32
  let v145 : BitVec 1 := Scalar.cmpi .ne v144 c0_i32_95
  let v149 : BitVec 1 := Scalar.andi v148 v145
  let v150 : BitVec 32 := Scalar.addi v144 v143
  let v151 : BitVec 32 := Scalar.select v149 v150 v144
  let c1_i32_102 : BitVec 32 := 1#32
  let v152 : BitVec 32 := Scalar.muli v151 c1_i32_102
  let v153 : BitVec 32 := Scalar.addi c0_i32_103 v152
  v153.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_108 : BitVec 32 := 5#32
  let v162 : BitVec 32 := Scalar.addi v2 c5_i32_108
  let c8_i32_109 : BitVec 32 := 8#32
  let c0_i32_110 : BitVec 32 := 0#32
  let v163 : BitVec 1 := Scalar.cmpi .eq c8_i32_109 c0_i32_110
  let c1_i32_111 : BitVec 32 := 1#32
  let v164 : BitVec 32 := Scalar.select v163 c1_i32_111 c8_i32_109
  let v165 : BitVec 32 := Scalar.remsi v162 v164
  let c0_i32_113 : BitVec 32 := 0#32
  let v167 : BitVec 1 := Scalar.cmpi .slt v165 c0_i32_113
  let c0_i32_114 : BitVec 32 := 0#32
  let v168 : BitVec 1 := Scalar.cmpi .slt v164 c0_i32_114
  let v169 : BitVec 1 := Scalar.xori v167 v168
  let c0_i32_112 : BitVec 32 := 0#32
  let v166 : BitVec 1 := Scalar.cmpi .ne v165 c0_i32_112
  let v170 : BitVec 1 := Scalar.andi v169 v166
  let v171 : BitVec 32 := Scalar.addi v165 v164
  let v172 : BitVec 32 := Scalar.select v170 v171 v165
  let c1_i32_119 : BitVec 32 := 1#32
  let v173 : BitVec 32 := Scalar.muli v172 c1_i32_119
  let v174 : BitVec 32 := Scalar.addi c0_i32_120 v173
  v174.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_125 : BitVec 32 := 2#32
  let v183 : BitVec 32 := Scalar.addi v2 c2_i32_125
  let c8_i32_126 : BitVec 32 := 8#32
  let c0_i32_127 : BitVec 32 := 0#32
  let v184 : BitVec 1 := Scalar.cmpi .eq c8_i32_126 c0_i32_127
  let c1_i32_128 : BitVec 32 := 1#32
  let v185 : BitVec 32 := Scalar.select v184 c1_i32_128 c8_i32_126
  let v186 : BitVec 32 := Scalar.remsi v183 v185
  let c0_i32_130 : BitVec 32 := 0#32
  let v188 : BitVec 1 := Scalar.cmpi .slt v186 c0_i32_130
  let c0_i32_131 : BitVec 32 := 0#32
  let v189 : BitVec 1 := Scalar.cmpi .slt v185 c0_i32_131
  let v190 : BitVec 1 := Scalar.xori v188 v189
  let c0_i32_129 : BitVec 32 := 0#32
  let v187 : BitVec 1 := Scalar.cmpi .ne v186 c0_i32_129
  let v191 : BitVec 1 := Scalar.andi v190 v187
  let v192 : BitVec 32 := Scalar.addi v186 v185
  let v193 : BitVec 32 := Scalar.select v191 v192 v186
  let c1_i32_136 : BitVec 32 := 1#32
  let v194 : BitVec 32 := Scalar.muli v193 c1_i32_136
  let v195 : BitVec 32 := Scalar.addi c0_i32_137 v194
  v195.toNat
def k0_dev12 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_142 : BitVec 32 := 6#32
  let v204 : BitVec 32 := Scalar.addi v2 c6_i32_142
  let c8_i32_143 : BitVec 32 := 8#32
  let c0_i32_144 : BitVec 32 := 0#32
  let v205 : BitVec 1 := Scalar.cmpi .eq c8_i32_143 c0_i32_144
  let c1_i32_145 : BitVec 32 := 1#32
  let v206 : BitVec 32 := Scalar.select v205 c1_i32_145 c8_i32_143
  let v207 : BitVec 32 := Scalar.remsi v204 v206
  let c0_i32_147 : BitVec 32 := 0#32
  let v209 : BitVec 1 := Scalar.cmpi .slt v207 c0_i32_147
  let c0_i32_148 : BitVec 32 := 0#32
  let v210 : BitVec 1 := Scalar.cmpi .slt v206 c0_i32_148
  let v211 : BitVec 1 := Scalar.xori v209 v210
  let c0_i32_146 : BitVec 32 := 0#32
  let v208 : BitVec 1 := Scalar.cmpi .ne v207 c0_i32_146
  let v212 : BitVec 1 := Scalar.andi v211 v208
  let v213 : BitVec 32 := Scalar.addi v207 v206
  let v214 : BitVec 32 := Scalar.select v212 v213 v207
  let c1_i32_153 : BitVec 32 := 1#32
  let v215 : BitVec 32 := Scalar.muli v214 c1_i32_153
  let v216 : BitVec 32 := Scalar.addi c0_i32_154 v215
  v216.toNat
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_159 : BitVec 32 := 1#32
  let v225 : BitVec 32 := Scalar.addi v2 c1_i32_159
  let c8_i32_160 : BitVec 32 := 8#32
  let c0_i32_161 : BitVec 32 := 0#32
  let v226 : BitVec 1 := Scalar.cmpi .eq c8_i32_160 c0_i32_161
  let c1_i32_162 : BitVec 32 := 1#32
  let v227 : BitVec 32 := Scalar.select v226 c1_i32_162 c8_i32_160
  let v228 : BitVec 32 := Scalar.remsi v225 v227
  let c0_i32_164 : BitVec 32 := 0#32
  let v230 : BitVec 1 := Scalar.cmpi .slt v228 c0_i32_164
  let c0_i32_165 : BitVec 32 := 0#32
  let v231 : BitVec 1 := Scalar.cmpi .slt v227 c0_i32_165
  let v232 : BitVec 1 := Scalar.xori v230 v231
  let c0_i32_163 : BitVec 32 := 0#32
  let v229 : BitVec 1 := Scalar.cmpi .ne v228 c0_i32_163
  let v233 : BitVec 1 := Scalar.andi v232 v229
  let v234 : BitVec 32 := Scalar.addi v228 v227
  let v235 : BitVec 32 := Scalar.select v233 v234 v228
  let c1_i32_170 : BitVec 32 := 1#32
  let v236 : BitVec 32 := Scalar.muli v235 c1_i32_170
  let v237 : BitVec 32 := Scalar.addi c0_i32_171 v236
  v237.toNat
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_176 : BitVec 32 := 7#32
  let v246 : BitVec 32 := Scalar.addi v2 c7_i32_176
  let c8_i32_177 : BitVec 32 := 8#32
  let c0_i32_178 : BitVec 32 := 0#32
  let v247 : BitVec 1 := Scalar.cmpi .eq c8_i32_177 c0_i32_178
  let c1_i32_179 : BitVec 32 := 1#32
  let v248 : BitVec 32 := Scalar.select v247 c1_i32_179 c8_i32_177
  let v249 : BitVec 32 := Scalar.remsi v246 v248
  let c0_i32_181 : BitVec 32 := 0#32
  let v251 : BitVec 1 := Scalar.cmpi .slt v249 c0_i32_181
  let c0_i32_182 : BitVec 32 := 0#32
  let v252 : BitVec 1 := Scalar.cmpi .slt v248 c0_i32_182
  let v253 : BitVec 1 := Scalar.xori v251 v252
  let c0_i32_180 : BitVec 32 := 0#32
  let v250 : BitVec 1 := Scalar.cmpi .ne v249 c0_i32_180
  let v254 : BitVec 1 := Scalar.andi v253 v250
  let v255 : BitVec 32 := Scalar.addi v249 v248
  let v256 : BitVec 32 := Scalar.select v254 v255 v249
  let c1_i32_187 : BitVec 32 := 1#32
  let v257 : BitVec 32 := Scalar.muli v256 c1_i32_187
  let v258 : BitVec 32 := Scalar.addi c0_i32_188 v257
  v258.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x32768 : Shape := ⟨2, ![512, 32768]⟩
abbrev S256 : Shape := ⟨1, ![256]⟩
abbrev S256x32768 : Shape := ⟨2, ![256, 32768]⟩
abbrev S_ : Shape := ⟨0, ![]⟩
abbrev S256x1 : Shape := ⟨2, ![256, 1]⟩
abbrev S256x2 : Shape := ⟨2, ![256, 2]⟩

abbrev nBuf : Space → Nat
  | .hbm => 38
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x32768, .bf16⟩
  | .hbm, ⟨2, _⟩ => ⟨S256, .i32⟩
  | .hbm, ⟨3, _⟩ => ⟨S256x512, .f32⟩
  | .hbm, ⟨4, _⟩ => ⟨S512x32768, .f32⟩
  | .hbm, ⟨5, _⟩ => ⟨S256x32768, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x32768, .f32⟩
  | .hbm, ⟨10, _⟩ => ⟨S256x32768, .f32⟩
  | .hbm, ⟨11, _⟩ => ⟨S256x32768, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256, .f32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256x1, .i32⟩
  | .hbm, ⟨35, _⟩ => ⟨S256x2, .i32⟩
  | .hbm, ⟨36, _⟩ => ⟨S256, .f32⟩
  | .hbm, ⟨37, _⟩ => ⟨S256, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Slots.lean ====
/-
The geometry of the kernel's exchange: which device sits at which distance on the ring of eight, the eight
slots of the communication buffer, and what the buffer of a device holds once every partial row has arrived.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe

/-! ## The ring -/

/-- The device `j + 1` places after `c`. -/
def up (c : Dev nD) (j : Fin 7) : Dev nD := ⟨(c.val + j.val + 1) % 8, Nat.mod_lt _ (by decide)⟩

/-- The device `i` places before `c`: whose partial rows slot `i` of `c` receives. -/
def frm (c : Dev nD) (i : Fin 8) : Dev nD := ⟨(c.val + 8 - i.val) % 8, Nat.mod_lt _ (by decide)⟩

/-- Going `j + 1` places on and then `7 - j` more returns to the start. -/
theorem up_up_rev (c : Dev nD) (j : Fin 7) : up (up c j) (Fin.rev j) = c := by
  revert c j; decide

theorem up_rev_up (c : Dev nD) (j : Fin 7) : up (up c (Fin.rev j)) j = c := by
  revert c j; decide

/-- What arrives in slot `j + 1` of the device `j + 1` places on comes from `c`. -/
theorem frm_up (c : Dev nD) (j : Fin 7) : frm (up c j) j.succ = c := by
  revert c j; decide

theorem frm_zero (c : Dev nD) : frm c 0 = c := by
  revert c; decide

/-- Moving `j + 1` places on is a bijection of the ring. -/
def upEquiv (j : Fin 7) : Dev nD ≃ Dev nD where
  toFun c := up c j
  invFun c := up c (Fin.rev j)
  left_inv c := up_up_rev c j
  right_inv c := up_rev_up c j

/-- The device of each of the kernel's signals: `d` places after the signaller. -/
theorem dev1_eq (c : Dev nD) : (⟨k0_dev1 c, k0_dev1_lt c⟩ : Dev nD) = up c 0 := by revert c; decide
theorem dev2_eq (c : Dev nD) : (⟨k0_dev2 c, k0_dev2_lt c⟩ : Dev nD) = up c 1 := by revert c; decide
theorem dev3_eq (c : Dev nD) : (⟨k0_dev3 c, k0_dev3_lt c⟩ : Dev nD) = up c 2 := by revert c; decide
theorem dev4_eq (c : Dev nD) : (⟨k0_dev4 c, k0_dev4_lt c⟩ : Dev nD) = up c 3 := by revert c; decide
theorem dev5_eq (c : Dev nD) : (⟨k0_dev5 c, k0_dev5_lt c⟩ : Dev nD) = up c 4 := by revert c; decide
theorem dev6_eq (c : Dev nD) : (⟨k0_dev6 c, k0_dev6_lt c⟩ : Dev nD) = up c 5 := by revert c; decide
theorem dev7_eq (c : Dev nD) : (⟨k0_dev7 c, k0_dev7_lt c⟩ : Dev nD) = up c 6 := by revert c; decide
/-- The device of each of the kernel's copies, in the order the kernel starts them: 4, 3, 5, 2, 6, 1, 7. -/
theorem dev8_eq (c : Dev nD) : (⟨k0_dev8 c, k0_dev8_lt c⟩ : Dev nD) = up c 3 := by revert c; decide
theorem dev9_eq (c : Dev nD) : (⟨k0_dev9 c, k0_dev9_lt c⟩ : Dev nD) = up c 2 := by revert c; decide
theorem dev10_eq (c : Dev nD) : (⟨k0_dev10 c, k0_dev10_lt c⟩ : Dev nD) = up c 4 := by revert c; decide
theorem dev11_eq (c : Dev nD) : (⟨k0_dev11 c, k0_dev11_lt c⟩ : Dev nD) = up c 1 := by revert c; decide
theorem dev12_eq (c : Dev nD) : (⟨k0_dev12 c, k0_dev12_lt c⟩ : Dev nD) = up c 5 := by revert c; decide
theorem dev13_eq (c : Dev nD) : (⟨k0_dev13 c, k0_dev13_lt c⟩ : Dev nD) = up c 0 := by revert c; decide
theorem dev14_eq (c : Dev nD) : (⟨k0_dev14 c, k0_dev14_lt c⟩ : Dev nD) = up c 6 := by revert c; decide

/-! ## The semaphores -/

/-- The barrier semaphore. -/
abbrev barS : Sem sig := (SemArray.scalar (sig.barrier 0 rfl) : Sems sig S_).sem

/-- The semaphore that counts the copy to the device `j + 1` places on as sent. -/
def sendS (j : Fin 7) : DmaSem sig := ⟨5 + j.val, by have := j.isLt; change 5 + j.val < 20; omega⟩

/-- The semaphore that counts the copy into slot `j + 1` as received. -/
def recvS (j : Fin 7) : DmaSem sig := ⟨13 + j.val, by have := j.isLt; change 13 + j.val < 20; omega⟩

/-! ## The slots -/

theorem slot_inb (i : Fin 8) : ∀ a, (![i.val, 0, 0] : Fin 3 → Nat) a + S1x2x256.size a ≤ S8x2x256.size a := by
  revert i; decide

/-- The rectangle of slot `i`. -/
abbrev slotRect (i : Fin 8) : Rect S8x2x256 := Rect.unit ![i.val, 0, 0] S1x2x256.size (slot_inb i)

/-- Slot `i` of the communication buffer: two rows of 256. -/
abbrev slotM (i : Fin 8) : Memref sig .tc .vmem S2x256 .f32 :=
  ((Memref.whole cc0_scratch0).slice (slotRect i) (fun _ => rfl)).squeeze S2x256 squeezes_S1x2x256_S2x256

/-- The elements of slot `i`. -/
abbrev slotSet (i : Fin 8) : Finset S8x2x256.Idx := (slotM i).view.set

theorem slotSet_eq (i : Fin 8) : slotSet i = (slotRect i).set := by
  refine (View.set_reshape _ _).trans ?_
  exact View.set_slice_whole _ _

/-- An element lies in the slot its first coordinate names. -/
theorem mem_slotSet {i : Fin 8} {x : S8x2x256.Idx} : x ∈ slotSet i ↔ x 0 = i := by
  rw [slotSet_eq, Rect.mem_set_unit]
  constructor
  · intro h
    have h0 := h 0
    apply Fin.ext
    have e1 : (![i.val, 0, 0] : Fin 3 → Nat) 0 = i.val := rfl
    have e2 : S1x2x256.size 0 = 1 := rfl
    rw [e1, e2] at h0
    omega
  · rintro rfl a
    match a with
    | 0 => exact ⟨le_rfl, Nat.lt_succ_self _⟩
    | 1 => exact ⟨Nat.zero_le _, by have := (x 1).isLt; change _ < 2 at this; change _ < 0 + 2; omega⟩
    | 2 => exact ⟨Nat.zero_le _, by have := (x 2).isLt; change _ < 256 at this; change _ < 0 + 256; omega⟩

theorem slot_disjoint : ∀ i i' : Fin 8, i ≠ i' → Disjoint (slotSet i) (slotSet i') := fun i i' h =>
  Finset.disjoint_left.mpr fun x hx hx' => h ((mem_slotSet.mp hx).symm.trans (mem_slotSet.mp hx'))

theorem slot_cover : Finset.univ.biUnion slotSet = (Finset.univ : Finset S8x2x256.Idx) := by
  ext x
  simp only [Finset.mem_biUnion, Finset.mem_univ, true_and, iff_true]
  exact ⟨x 0, mem_slotSet.mpr rfl⟩

/-- The position inside its slot of an element of the buffer. -/
def row (x : S8x2x256.Idx) : S1x2x256.Idx
  | 0 => ⟨0, by decide⟩
  | 1 => x 1
  | 2 => x 2

theorem slotRect_emb_zero (i : Fin 8) (y : S1x2x256.Idx) : (slotRect i).emb y 0 = i := by
  apply Fin.ext
  have h : (y 0).val < 1 := (y 0).isLt
  rw [Rect.emb_apply]
  change i.val + 1 * (y 0).val = i.val
  omega

theorem row_emb (i : Fin 8) (y : S1x2x256.Idx) : row ((slotRect i).emb y) = y := by
  funext a
  apply Fin.ext
  match a with
  | 0 => have h : (y 0).val < 1 := (y 0).isLt
         change 0 = (y 0).val; omega
  | 1 => change (0 + 1 * (y 1).val) = (y 1).val; omega
  | 2 => change (0 + 1 * (y 2).val) = (y 2).val; omega

/-- Where slot `i` puts an index of its own: through the rectangle of the slot, at a position of the slot that
does not depend on `i`. -/
theorem slot_emb (i : Fin 8) (x : S2x256.Idx) :
    (slotM i).view.emb x = (slotRect i).emb (Shape.reshapeEquiv (squeezes_S1x2x256_S2x256.numel_eq) x) := rfl

end Cert.Exchange
-- ==== Proof.Protocol.lean ====
/-
The protocol of the exchange, in the rounds library. Every device owns fifteen cells: its barrier semaphore,
seven that count its copies as sent and seven that count copies into its slots as received. One round:

* device `e`'s barrier has seven duties of one unit each; duty `k` is paid by the device `k + 1` places after `e`
  and hands `e` that device's slot `k + 1`, the very slot `e` will copy into;
* a received-cell has the one duty of a slot's credit: the slot, holding what its sender computed;
* a sent-cell has the one duty of a slot's credit: the share of slot `0` that the copy read.
-/
module

public import proofs.«01_k».proof.Proof.Slots
public import Idealize.ShloMosaic.Lib.Transfers

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-- The ghost state: the pipeline's own, and the exchange's with duties named by distances on the ring. -/
abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## What the buffers hold -/

/-- Device `c`'s copies of its three arguments as the kernel sees them. -/
def xIn (c : Dev nD) : (cc0_stg0_0 : Ref sig .tc).ty.Contents (Elt F) :=
  (win0_0.blk (0 : Fin 1)).view.read (Elt F) (m ((c : Thread nD τ).loc main_arg0))
def wIn (c : Dev nD) : (cc0_stg1_0 : Ref sig .tc).ty.Contents (Elt F) :=
  (win0_1.blk (0 : Fin 1)).view.read (Elt F) (m ((c : Thread nD τ).loc main_arg1))
def lIn (c : Dev nD) : (cc0_stg2_0 : Ref sig .tc).ty.Contents (Elt F) :=
  (win0_2.blk (0 : Fin 1)).view.read (Elt F) (m ((c : Thread nD τ).loc main_arg2))

/-- The index of device `c` on the axis the vocabulary is cut along, as the kernel computes it. -/
def axisIdx (c : Dev nD) : BitVec 32 := Scalar.remsi (Scalar.divsi (Dev.word c) 1#32) 8#32

/-- The two rows device `c` computes from its own block: the sums of exponentials and the label's logits. -/
def part (c : Dev nD) : FVec F S1x2x256 .f32 :=
  k0_pay3 (axisIdx c) (k0_pay2 (xIn m c)) (wIn m c) (lIn m c)

/-- The communication buffer of device `c` when all copies have landed: slot `i` holds the rows of the device `i`
places before. -/
def comm (c : Dev nD) : Buf (Elt F) ((c : Thread nD τ).loc cc0_scratch0) :=
  fun (x : S8x2x256.Idx) => part m (frm c (x 0)) (row x)

/-- What the kernel returns on device `c`. -/
def result (c : Dev nD) : (cc0_stg3_0 : Ref sig .tc).ty.Contents (Elt F) := k0_pay1 (comm m c)

/-- Slot `i` of device `c`, held at share `q` with contents `f`. -/
def slotPts (c : Dev nD) (i : Fin 8) (q : PosShare TreeShare) (f : Buf (Elt F) ((c : Thread nD τ).loc cc0_scratch0)) : sProp 𝕄 :=
  ((c : Thread nD τ).loc cc0_scratch0) ↦[slotSet i]{q} f

instance slotPts_storable (c : Dev nD) (i : Fin 8) (q) (f) : BI.Storable (upEmb : UEmb _ 𝕄) (slotPts (F := F) c i q f) := by
  unfold slotPts; infer_instance

/-- The copy of slot `0` of `c` into slot `j + 1` of the device `j + 1` places on leaves there what that slot is to
hold. -/
theorem copy_agrees (c : Dev nD) (j : Fin 7) (fd : Buf (Elt F) ((up c j : Thread nD τ).loc cc0_scratch0)) :
    ∀ x ∈ slotSet j.succ,
      (slotM j.succ).view.write (Elt F) fd ((slotM 0).view.read (Elt F) (comm m c)) Finset.univ x = comm m (up c j) x := by
  intro x hx
  obtain ⟨y, -, rfl⟩ := Finset.mem_map.mp hx
  rw [View.write_emb_of_mem _ _ (Finset.mem_univ y)]
  change part m (frm c ((slotM 0).view.emb y 0)) (row ((slotM 0).view.emb y))
    = part m (frm (up c j) ((slotM j.succ).view.emb y 0)) (row ((slotM j.succ).view.emb y))
  rw [slot_emb, slot_emb, slotRect_emb_zero, slotRect_emb_zero, row_emb, row_emb, frm_zero, frm_up]

/-- The kernel's store of its own rows leaves in slot `0` what that slot is to hold. -/
theorem store_agrees (c : Dev nD) (f : Buf (Elt F) ((c : Thread nD τ).loc cc0_scratch0)) :
    ∀ x ∈ slotSet 0,
      ((Memref.whole cc0_scratch0).access (slotRect 0) : View sig .tc _ _ _).write (Elt F) f (part m c) Finset.univ x = comm m c x := by
  intro x hx
  rw [slotSet_eq, ← Rect.map_emb_univ] at hx
  obtain ⟨y, -, rfl⟩ := Finset.mem_map.mp hx
  refine (View.write_emb_of_mem (v := ((Memref.whole cc0_scratch0).access (slotRect 0) : View sig .tc _ _ _)) (Val := Elt F) f
    (part m c) (M := Finset.univ) (x := y) (Finset.mem_univ y)).trans ?_
  change part m c y = part m (frm c ((slotRect 0).emb y 0)) (row ((slotRect 0).emb y))
  rw [slotRect_emb_zero, row_emb, frm_zero]

/-! ## The cells -/

/-- A device's cells: its barrier, the copies it sends, the copies it receives. -/
abbrev Kd : Type := Unit ⊕ (Fin 7 ⊕ Fin 7)
abbrev kBar : Kd := .inl ()
abbrev kSend (j : Fin 7) : Kd := .inr (.inl j)
abbrev kRecv (j : Fin 7) : Kd := .inr (.inr j)

/-- The semaphore of each of a device's cells. -/
abbrev csem : Kd → SemLoc sig
  | .inl _ => .reg barS
  | .inr (.inl j) => .dma (sendS j)
  | .inr (.inr j) => .dma (recvS j)

/-- Which cell a semaphore is. -/
def kindOf : SemLoc sig → Option Kd
  | .reg s => if s = barS then some kBar else none
  | .dma q => if h : 5 ≤ q.val ∧ q.val < 12 then some (kSend ⟨q.val - 5, by omega⟩)
      else if h : 13 ≤ q.val then some (kRecv ⟨q.val - 13, by have : q.val < 20 := q.isLt; omega⟩) else none

theorem kindOf_csem (k : Kd) : kindOf (csem k) = some k := by revert k; decide

/-- Cell `k` of device `c`. -/
abbrev cell (c : Dev nD) (k : Kd) : GSem nD τ sig := ((c : Thread nD τ), csem k)

/-- The credit of one copy: that of a slot. -/
abbrev N : ℕ := (slotM 0).view.dmaCredit
theorem N_pos : 0 < N := View.dmaCredit_pos _ (by decide)

theorem slot_amount (i : Fin 8) (q : DmaSem sig) : (slotM i).view.amount (.dma q) = N := rfl

/-! ## The schedule -/

/-- What duty `k` of device `c`'s barrier hands over: slot `k + 1` of the device `k + 1` places on. -/
def barPay (c : Dev nD) (k : Fin 7) : sProp 𝕄 := iprop(∃ f, slotPts (up c k) k.succ fullShare f)
/-- What a copy received in slot `j + 1` hands over. -/
def recvPay (c : Dev nD) (j : Fin 7) : sProp 𝕄 := slotPts c j.succ fullShare (comm m c)
/-- What a copy sent gives back. -/
def sendPay (c : Dev nD) (j : Fin 7) : sProp 𝕄 := slotPts c 0 (shareTok fullShare 7 j) (comm m c)

/-- The duties of a cell in its one round. -/
def dutiesOf : Option Kd → Finset (Fin 7)
  | some (.inl _) => Finset.univ
  | some (.inr _) => {0}
  | none => ∅

/-- What a duty is counted with. -/
def amountOf : Option Kd → ℕ
  | some (.inl _) => 1
  | _ => N

/-- What a duty hands over. -/
def payOf (c : Dev nD) (d : Fin 7) : Option Kd → sProp 𝕄
  | some (.inl _) => barPay c d
  | some (.inr (.inl j)) => sendPay m c j
  | some (.inr (.inr j)) => recvPay m c j
  | none => iprop(emp)

theorem amountOf_pos (k : Option Kd) : 0 < amountOf k := by
  rcases k with _ | (_ | _ )
  · exact N_pos
  · exact Nat.one_pos
  · exact N_pos

/-- The schedule of the exchange: one round. -/
def sched : Rounds.Schedule (GSem nD τ sig) (Fin 7) 𝕄 where
  duties g r := if r = 0 ∧ g.1.2 = .tc then dutiesOf (kindOf g.2) else ∅
  unitless _ := False
  amount g _ _ := amountOf (kindOf g.2)
  payload g _ d := payOf m g.1.1 d (kindOf g.2)
  amount_pos g _ _ _ := amountOf_pos _

instance sched_payload_storable (g : GSem nD τ sig) (r : ℕ) (d : Fin 7) :
    BI.Storable (upEmb : UEmb _ 𝕄) ((sched (F := F) m).payload g r d) := by
  show BI.Storable upEmb (payOf m g.1.1 d (kindOf g.2))
  rcases kindOf g.2 with _ | (_ | (_ | _))
  · unfold payOf; infer_instance
  · unfold payOf barPay; infer_instance
  · unfold payOf sendPay; infer_instance
  · unfold payOf recvPay; infer_instance

theorem duties_cell (c : Dev nD) (k : Kd) : (sched (F := F) m).duties (cell c k) 0 = dutiesOf (some k) := by
  dsimp only [sched]; rw [if_pos ⟨rfl, rfl⟩, kindOf_csem]

theorem duties_later (g : GSem nD τ sig) : ∀ r, 1 ≤ r → (sched (F := F) m).duties g r = ∅ :=
  fun r hr => by dsimp only [sched]; exact if_neg fun h => by omega

theorem amount_cell (c : Dev nD) (k : Kd) (d : Fin 7) : (sched (F := F) m).amount (cell c k) 0 d = amountOf (some k) := by
  dsimp only [sched]; rw [kindOf_csem]

theorem payload_cell (c : Dev nD) (k : Kd) (d : Fin 7) : (sched (F := F) m).payload (cell c k) 0 d = payOf m c d (some k) := by
  dsimp only [sched]; rw [kindOf_csem]

/-- A round of the barrier is complete at seven, -/
theorem expect_bar (c : Dev nD) : (sched (F := F) m).expect (cell c kBar) 0 = 7 := by
  unfold Schedule.expect Schedule.amountOf
  rw [duties_cell, Finset.sum_congr rfl fun d _ => amount_cell m c kBar d]
  rfl

/-- and one of a sent- or received-cell at one slot's credit. -/
theorem expect_dma (c : Dev nD) (k : Fin 7 ⊕ Fin 7) : (sched (F := F) m).expect (cell c (.inr k)) 0 = N := by
  unfold Schedule.expect Schedule.amountOf
  rw [duties_cell, Finset.sum_congr rfl fun d _ => amount_cell m c (.inr k) d]
  exact Finset.sum_singleton _ _

/-- All the barrier hands over: the seven slots to be copied into. -/
theorem rest_bar (c : Dev nD) :
    bigSep ((sched (F := F) m).duties (cell c kBar) 0 \ ∅) (fun d => (sched (F := F) m).payload (cell c kBar) 0 d)
      = bigSep Finset.univ fun k => barPay c k := by
  rw [Finset.sdiff_empty, duties_cell]
  exact bigSep_congr fun d _ => payload_cell m c kBar d

theorem rest_dma (c : Dev nD) (k : Fin 7 ⊕ Fin 7) :
    bigSep ((sched (F := F) m).duties (cell c (.inr k)) 0 \ ∅) (fun d => (sched (F := F) m).payload (cell c (.inr k)) 0 d)
      = payOf m c 0 (some (.inr k)) := by
  rw [Finset.sdiff_empty, duties_cell]
  exact bigSep_singleton.trans (payload_cell m c (.inr k) 0)

/-! ## What is owed, and the order of the waits -/

/-- What device `c` still owes when the signals in `S` and the copies in `T` are to come. -/
def owe (c : Dev nD) (S T : Finset (Fin 7)) : CellTallies nD τ sig Unit :=
  (∑ j ∈ T, tallyAt (cell (up c j) (kRecv j)) () N) + ∑ j ∈ S, tallyAt (cell (up c j) kBar) () 1

theorem owe_signal (c : Dev nD) (S T : Finset (Fin 7)) {j : Fin 7} (h : j ∈ S) :
    owe c S T = owe c (S.erase j) T + tallyAt (cell (up c j) kBar) () 1 := by
  unfold owe; rw [← Finset.sum_erase_add S _ h, add_assoc]

theorem owe_send (c : Dev nD) (T : Finset (Fin 7)) {j : Fin 7} (h : j ∈ T) :
    owe c ∅ T = owe c ∅ (T.erase j) + tallyAt (cell (up c j) (kRecv j)) () N := by
  unfold owe; rw [← Finset.sum_erase_add T _ h, Finset.sum_empty, add_zero, add_zero]

theorem owe_none (c : Dev nD) : owe c ∅ ∅ = 0 := by unfold owe; rw [Finset.sum_empty, Finset.sum_empty, add_zero]

/-- The labels in use: one on every semaphore of a core. -/
def lab (g : GSem nD τ sig) : Finset Unit := if g.1.2 = .tc then {()} else ∅
/-- The level of a cell: barriers first, then received copies. -/
def lvlOf : Option Kd → ℕ
  | some (.inl _) => 1
  | some (.inr (.inr _)) => 2
  | _ => 0
def lvl (g : GSem nD τ sig) (_ : Unit) : ℕ := lvlOf (kindOf g.2)

theorem lab_of_ne (g : GSem nD τ sig) (h : g.1.2 ≠ .tc) : lab g = ∅ := if_neg h
theorem lab_tc (c : Dev nD) (sm : SemLoc sig) : lab ((c : Thread nD τ), sm) = {()} := if_pos rfl
theorem lvl_cell (c : Dev nD) (k : Kd) (u : Unit) : lvl (cell c k) u = lvlOf (some k) := by unfold lvl; rw [kindOf_csem]

/-- Whatever is owed is owed to some device's barrier (only while signals are to come) or received-cell. -/
theorem owe_pos {c : Dev nD} {S T : Finset (Fin 7)} {g : GSem nD τ sig} {u : Unit} (h : 0 < owe c S T g u) :
    (∃ j ∈ S, g = cell (up c j) kBar) ∨ ∃ j, g = cell (up c j) (kRecv j) := by
  by_contra hn
  rw [not_or] at hn
  refine absurd h (Nat.not_lt.mpr (Nat.le_of_eq ?_))
  unfold owe
  rw [Pi.add_apply, Finsupp.add_apply, Finset.sum_apply, Finset.sum_apply, Finsupp.finset_sum_apply, Finsupp.finset_sum_apply,
    Finset.sum_eq_zero fun j _ => (tallyAt_apply ..).trans (if_neg fun h' => hn.2 ⟨j, h'.1⟩),
    Finset.sum_eq_zero fun j hj => (tallyAt_apply ..).trans (if_neg fun h' => hn.1 ⟨j, hj, h'.1⟩), add_zero]

/-- A device may wait on a semaphore below everything it owes. -/
theorem mayWait_below (c : Dev nD) (sm : SemLoc sig) (S T : Finset (Fin 7)) (cut : ℕ) (hsm : lvlOf (kindOf sm) ≤ cut)
    (hS : S.Nonempty → cut < 1) (hT : cut < 2) :
    (levAts lab lvl : sProp 𝕄) ⊢ MayWait (c : Thread nD τ) sm () (owe c S T) :=
  MayOwe.of_cut (L := lab) (lev := lvl) cut
    (fun p hp => by rw [Finset.mem_singleton.mp hp, lab_tc]; exact Finset.mem_singleton_self _)
    (fun g u hg => by
      rcases owe_pos hg with ⟨j, -, rfl⟩ | ⟨j, rfl⟩ <;> rw [lab_tc] <;> exact Finset.mem_singleton_self _)
    (fun p hp => by rw [Finset.mem_singleton.mp hp]; exact hsm)
    (fun g u hg => by
      rcases owe_pos hg with ⟨j, hj, rfl⟩ | ⟨j, rfl⟩ <;> rw [lvl_cell]
      · exact hS ⟨j, hj⟩
      · exact hT)

/-! ## The records every device keeps: the cells' invariants, and that every cell has reached its round -/

variable (K : Dev nD × Kd → ℕ)

/-- That every cell of every device is under the schedule and at its round. -/
def records : sProp 𝕄 :=
  bigSep Finset.univ fun ck : Dev nD × Kd => iprop(cellInv ER (sched m) (K ck) (cell ck.1 ck.2) ∗ reached ER (cell ck.1 ck.2) 0)

instance records_persistent : BI.Persistent (records m K) := by unfold records; infer_instance

theorem records_inv (c : Dev nD) (k : Kd) : records m K ⊢ cellInv ER (sched m) (K (c, k)) (cell c k) := by
  unfold records
  exact (BI.bigSep_elim (Finset.mem_univ ((c, k) : Dev nD × Kd))).trans (sep_and.trans and_elimL)

theorem records_reached (c : Dev nD) (k : Kd) : records m K ⊢ reached ER (cell c k) 0 := by
  unfold records
  exact (BI.bigSep_elim (Finset.mem_univ ((c, k) : Dev nD × Kd))).trans (sep_and.trans and_elimR)

end Cert.Exchange
-- ==== Proof.Steps.lean ====
/-
The body of the exchange, one effect at a time. What a device holds between two effects is a family over the
distances still to come and one over those done; each lemma here takes one distance from the first to the second.
-/
module

public import proofs.«01_k».proof.Proof.Protocol
public import Idealize.ShloMosaic.Lib.Ring

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ)

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What the core owes, whatever it has waited for before. -/
def debt (c : Dev nD) (S T : Finset (Fin 7)) : sProp 𝕄 := iprop(∃ W, owes (c : Thread nD τ) (owe c S T) W)

/-- One distance taken out of those to come, -/
theorem take {T : Finset (Fin 7)} {j : Fin 7} (hj : j ∈ T) (Φ : Fin 7 → sProp 𝕄) :
    bigSep T Φ = iprop(Φ j ∗ bigSep (T.erase j) Φ) := BI.bigSep_erase hj

/-- and put with those done. -/
theorem put {T : Finset (Fin 7)} {j : Fin 7} (hj : j ∈ T) (Φ : Fin 7 → sProp 𝕄) :
    bigSep (T.erase j)ᶜ Φ = iprop(Φ j ∗ bigSep Tᶜ Φ) := by
  rw [Finset.compl_erase]; exact BI.bigSep_insert fun h => Finset.mem_compl.mp h hj

/-! ## Signals -/

/-- What the signal to the device `j + 1` places on takes: the right to pay that barrier's duty, and the slot that
device is to copy into. -/
def sigNeed (c : Dev nD) (j : Fin 7) : sProp 𝕄 :=
  iprop(dutyTok ER (cell (up c j) kBar) 0 (Fin.rev j) ∗ ∃ f, slotPts c (Fin.rev j).succ fullShare f)

/-- Before the signals in `S`. -/
def sigSt (c : Dev nD) (S : Finset (Fin 7)) : sProp 𝕄 :=
  iprop(debt c S Finset.univ ∗ bigSep S fun j => sigNeed c j)

theorem step_signal (c : Dev nD) (S : Finset (Fin 7)) (j : Fin 7) (hj : j ∈ S) (n : Dev nD) (hn : n = up c j) (a : ℕ) (ha : a = 1)
    {α : Type} {Q : α → sProp 𝕄} {k : PUnit → Prog (TpuEff nD τ sig (Elt F) Λ₀ .tc) α} :
    records m K ⊢ iprop(sigSt c S -∗ (sigSt c (S.erase j) -∗ wpc c (k ⟨⟩) Q) -∗ wpc c (.op (.semSignal (n : Thread nD τ) barS a) k) Q) := by
  subst hn ha
  unfold sigSt debt
  rw [take hj]
  iintro #HR ⟨⟨%W, HO⟩, Hj, Hrest⟩ Hk
  unfold sigNeed
  icases Hj with ⟨Htok, Hslot⟩
  ihave #HI := (records_inv m K (up c j) kBar) $$ HR
  ihave #Hr := (records_reached m K (up c j) kBar) $$ HR
  iapply (Rounds.wp_signal 𝒱₀ ER (sched m) (c : Thread nD τ) none (dst := (up c j : Thread nD τ)) (sem := barS) (κ := K (up c j, kBar)) (r := 0)
      (d := Fin.rev j) (by rw [duties_cell m (up c j) kBar]; exact Finset.mem_univ _) (amount_cell m (up c j) kBar (Fin.rev j)) () (owe c (S.erase j) Finset.univ)
      (owe_signal c S Finset.univ hj))
    $$ [HO Htok Hslot]
  · isplitr; · iexact HI
    isplitl [HO]; · iexact HO
    isplitl [Htok]; · iexact Htok
    isplitl [Hslot]
    · rw [payload_cell m (up c j) kBar]
      unfold payOf barPay
      rw [up_up_rev]
      iexact Hslot
    iexact Hr
  iintro HO
  iapply Hk
  isplitl [HO]
  · iexists W; iexact HO
  iexact Hrest

/-! ## The wait on the barrier -/

theorem step_barrier (c : Dev nD) (a : ℕ) (ha : a = 7)
    {α : Type} {Q : α → sProp 𝕄} {k : PUnit → Prog (TpuEff nD τ sig (Elt F) Λ₀ .tc) α} :
    iprop(records m K ∗ levAts lab lvl ∗ debt c ∅ Finset.univ ∗ cred (tallyAt (cell c kBar) () 7) ∗ atPos ER (cell c kBar) 0 ∅ 0)
      ⊢ iprop((iprop(debt c ∅ Finset.univ ∗ semVal (cell c kBar) 0 ∗ bigSep Finset.univ fun j => barPay c j) -∗ wpc c (k ⟨⟩) Q)
        -∗ wpc c (.op (.semWait barS a) k) Q) := by
  subst ha
  unfold debt
  iintro ⟨#HR, #HL, ⟨%W, HO⟩, Hc, Hat⟩ Hk
  ihave #HI := (records_inv m K c kBar) $$ HR
  iapply (Rounds.wp_wait_rest_token 𝒱₀ ER (sched m) (c : Thread nD τ) none (κ := K (c, kBar))
      (wpE_semWait_eq 𝒱₀ (c : Thread nD τ) none Set.univ) (Set.mem_univ _) () (O := owe c ∅ Finset.univ) (W := W) (R := 0) (m := 0) (T := ∅)
      (by rw [expect_bar])) $$ [Hc HO Hat]
  · isplitr; · iexact HI
    isplitl [Hc]; · iexact Hc
    isplitl [HO]; · iexact HO
    isplitr
    · iapply (mayWait_below c (.reg barS) ∅ Finset.univ 1 (by decide) (fun h => absurd h Finset.not_nonempty_empty) (by decide))
      iexact HL
    iexact Hat
  iintro ⟨HO, Hat, -, Hpay⟩
  ihave Hp := (Entails.of_eq (rest_bar m c)) $$ Hpay
  imod (Rounds.cell_close ER (sched m) (Set.mem_univ (K (c, kBar))) (fun h => h) (R := 0 + 1) (duties_later m (cell c kBar))) $$ [Hat] with Hz
  · isplitr; · iexact HI
    iexact Hat
  iapply Hk
  isplitl [HO]
  · iexists _; iexact HO
  isplitl [Hz] <;> iassumption

/-! ## Copies -/

/-- What the copy to the device `j + 1` places on takes: a share of slot `0` to read, the slot there to write, and
the rights to pay the two cells it raises. -/
def sendNeed (c : Dev nD) (j : Fin 7) : sProp 𝕄 :=
  iprop(slotPts c 0 (shareTok fullShare 7 j) (comm m c) ∗ barPay c j
    ∗ dutyTok ER (cell c (kSend j)) 0 0 ∗ dutyTok ER (cell (up c j) (kRecv j)) 0 0)

/-- Before the copies in `T`: for those done, the right to wait until they are sent. -/
def sendSt (c : Dev nD) (T : Finset (Fin 7)) : sProp 𝕄 :=
  iprop(debt c ∅ T ∗ (bigSep T fun j => sendNeed m c j) ∗ bigSep Tᶜ fun j => cred (tallyAt (cell c (kSend j)) () N))

theorem sent_pays (c : Dev nD) (j : Fin 7) :
    (((slotM 0).view.loc (c : Thread nD τ)) ↦[(slotM 0).view.set]{shareTok fullShare 7 j} comm m c : sProp 𝕄)
      ⊢ (sched m).payload (cell c (kSend j)) 0 0 := by
  rw [payload_cell m c (kSend j)]; exact BI.Entails.refl _

theorem landed_pays (c : Dev nD) (j : Fin 7) (f : Buf (Elt F) ((up c j : Thread nD τ).loc cc0_scratch0)) :
    (((slotM j.succ).view.loc (up c j : Thread nD τ)) ↦[(slotM j.succ).view.set]{fullShare}
        ((slotM j.succ).view.write (Elt F) f ((slotM 0).view.read (Elt F) (comm m c)) Finset.univ) : sProp 𝕄)
      ⊢ (sched m).payload (cell (up c j) (kRecv j)) 0 0 := by
  rw [payload_cell m (up c j) (kRecv j)]
  exact Entails.of_eq (pointsTo_congr (copy_agrees m c j f))

theorem step_send (c : Dev nD) (T : Finset (Fin 7)) (j : Fin 7) (hj : j ∈ T) (n : Dev nD) (hn : n = up c j)
    (src dst : Memref sig .tc .vmem S2x256 .f32) (hsrc : src = slotM 0) (hdst : dst = slotM j.succ)
    (sS rS : DmaSem sig) (hsS : sS = sendS j) (hrS : rS = recvS j)
    {hsc : dst.view.ref.isScScratch = false} {h₁ : src.view.WordExact} {h₂ : dst.view.WordExact}
    {h₃ : DmaTarget.Typed .vmem (.dma rS) (.remote (Dev.tc n : Thread nD τ) dst (.dma sS) hsc)}
    {α : Type} {Q : α → sProp 𝕄} {k : PUnit → Prog (TpuEff nD τ sig (Elt F) Λ₀ .tc) α} :
    records m K ⊢ iprop(sendSt m c T -∗ (sendSt m c (T.erase j) -∗ wpc c (k ⟨⟩) Q)
        -∗ wpc c (.op (.enqueueDma src (.remote (Dev.tc n : Thread nD τ) dst (.dma sS) hsc) (.dma rS) h₁ h₂ h₃) k) Q) := by
  subst hn hsrc hdst hsS hrS
  unfold sendSt debt
  rw [take hj, put hj]
  iintro #HR ⟨⟨%W, HO⟩, ⟨Hj, Hrest⟩, Hdone⟩ Hk
  unfold sendNeed barPay
  icases Hj with ⟨Hsrc, ⟨%f, Hdst⟩, HtS, HtR⟩
  ihave #HIS := (records_inv m K c (kSend j)) $$ HR
  ihave #HIR := (records_inv m K (up c j) (kRecv j)) $$ HR
  ihave #HrS := (records_reached m K c (kSend j)) $$ HR
  ihave #HrR := (records_reached m K (up c j) (kRecv j)) $$ HR
  unfold slotPts
  iapply (Rounds.wp_send_pointsTo 𝒱₀ ER (sched m) (c : Thread nD τ) none (c' := (up c j : Thread nD τ)) (src := slotM 0) (dst := slotM j.succ)
      (sS := .dma (sendS j)) (sem := .dma (recvS j)) (q := shareTok fullShare 7 j) (fs := comm m c) (κ₁ := K (c, kSend j)) (κ₂ := K (up c j, kRecv j))
      (r₁ := 0) (r₂ := 0) (d₁ := 0) (d₂ := 0) (fd := f)
      (by rw [duties_cell m c (kSend j)]; exact Finset.mem_singleton_self _)
      (by rw [duties_cell m (up c j) (kRecv j)]; exact Finset.mem_singleton_self _)
      () () N (slot_amount j.succ (recvS j)) (amount_cell m c (kSend j) 0) (amount_cell m (up c j) (kRecv j) 0) (owe c ∅ (T.erase j)) (owe_send c T hj) (W := W)
      (sent_pays m c j) (landed_pays m c j f))
    $$ [Hsrc Hdst HO HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [HO]
  · iexists W; iexact HO
  isplitl [Hrest]; · iexact Hrest
  isplitl [Hc] <;> iassumption

/-! ## Waits for copies -/

/-- What the wait on cell `k` takes. -/
def waitNeed (c : Dev nD) (k : Fin 7 ⊕ Fin 7) : sProp 𝕄 :=
  iprop(cred (tallyAt (cell c (.inr k)) () N) ∗ atPos ER (cell c (.inr k)) 0 ∅ 0)

/-- What it gives: the cell is done with, and what its copy hands over. -/
def waitGain (c : Dev nD) (k : Fin 7 ⊕ Fin 7) : sProp 𝕄 :=
  iprop(semVal (cell c (.inr k)) 0 ∗ payOf m c 0 (some (.inr k)))

/-- Before the waits in `T`, of the cells that `side` names. -/
def waitSt (c : Dev nD) (side : Fin 7 → Fin 7 ⊕ Fin 7) (T : Finset (Fin 7)) : sProp 𝕄 :=
  iprop(debt c ∅ ∅ ∗ (bigSep T fun j => waitNeed c (side j)) ∗ bigSep Tᶜ fun j => waitGain m c (side j))

theorem step_wait (c : Dev nD) (side : Fin 7 → Fin 7 ⊕ Fin 7) (T : Finset (Fin 7)) (j : Fin 7) (hj : j ∈ T)
    (i : Fin 8) (src dst : Memref sig .tc .vmem S2x256 .f32) (hdst : dst = slotM i) (q : DmaSem sig) (hq : SemLoc.dma q = csem (.inr (side j)))
    {h₁ : src.view.WordExact} {h₂ : dst.view.WordExact}
    {α : Type} {Q : α → sProp 𝕄} {k : PUnit → Prog (TpuEff nD τ sig (Elt F) Λ₀ .tc) α} :
    records m K ⊢ iprop(waitSt m c side T -∗ (waitSt m c side (T.erase j) -∗ wpc c (k ⟨⟩) Q) -∗ wpc c (.op (.waitDma2 q src dst h₁ h₂) k) Q) := by
  subst hdst
  unfold waitSt debt
  rw [take hj, put hj]
  iintro #HR ⟨⟨%W, HO⟩, ⟨Hj, Hrest⟩, Hdone⟩ Hk
  unfold waitNeed
  icases Hj with ⟨Hc, Hat⟩
  ihave #HI := (records_inv m K c (.inr (side j))) $$ HR
  iapply (Rounds.wp_wait_rest_token 𝒱₀ ER (sched m) (c : Thread nD τ) none (sm := csem (.inr (side j))) (k' := N) (κ := K (c, .inr (side j)))
      (fun Kt => (wpE_waitDma2_eq 𝒱₀ (c : Thread nD τ) none Set.univ Kt).trans (by rw [← hq])) (Set.mem_univ _) () (O := owe c ∅ ∅) (W := W)
      (R := 0) (m := 0) (T := ∅) (by rw [Nat.zero_add, expect_dma])) $$ [Hc HO Hat]
  · isplitr; · iexact HI
    isplitl [Hc]; · iexact Hc
    isplitl [HO]; · iexact HO
    isplitr; · rw [owe_none, MayWait_zero]; iempintro
    iexact Hat
  iintro ⟨HO, Hat, -, Hpay⟩
  ihave Hp := (Entails.of_eq (rest_dma m c (side j))) $$ Hpay
  imod (Rounds.cell_close ER (sched m) (Set.mem_univ (K (c, .inr (side j)))) (fun h => h) (R := 0 + 1) (duties_later m (cell c (.inr (side j))))) $$ [Hat] with Hz
  · isplitr; · iexact HI
    iexact Hat
  iapply Hk
  isplitl [HO]
  · iexists _; iexact HO
  isplitl [Hrest]; · iexact Hrest
  isplitl [Hz Hp]
  · unfold waitGain
    isplitl [Hz] <;> iassumption
  iexact Hdone

/-! ## The buffer in slots -/

/-- The communication buffer is its slot `0` and its other seven. -/
theorem buffer_slots (c : Dev nD) (f : Buf (Elt F) ((c : Thread nD τ).loc cc0_scratch0)) :
    (((c : Thread nD τ).loc cc0_scratch0) ↦{fullShare} f : sProp 𝕄)
      = iprop(slotPts c 0 fullShare f ∗ bigSep Finset.univ fun j : Fin 7 => slotPts c j.succ fullShare f) := by
  rw [Ring.pointsTo_blocks (ℓ := (c : Thread nD τ).loc cc0_scratch0) slotSet slot_disjoint slot_cover f,
    Fin.univ_succ, Finset.cons_eq_insert, BI.bigSep_insert (by simp), BI.bigSep_map]
  rfl

end Cert.Exchange
-- ==== Proof.Body.lean ====
/-
The kernel's body on one device: from what the launch hands it to what it leaves, by the steps of the exchange in
program order.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## What the body starts from and what it leaves -/

/-- A device's positions at the start of the round of each of its cells, -/
def seats (c : Dev nD) : sProp 𝕄 :=
  iprop(atPos ER (cell c kBar) 0 ∅ 0 ∗ (bigSep Finset.univ fun j => atPos ER (cell c (kSend j)) 0 ∅ 0)
    ∗ bigSep Finset.univ fun j => atPos ER (cell c (kRecv j)) 0 ∅ 0)

/-- and the rights to pay the duties that are its to pay. -/
def rights (c : Dev nD) : sProp 𝕄 :=
  iprop((bigSep Finset.univ fun j => dutyTok ER (cell (up c j) kBar) 0 (Fin.rev j))
    ∗ (bigSep Finset.univ fun j => dutyTok ER (cell c (kSend j)) 0 0)
    ∗ bigSep Finset.univ fun j => dutyTok ER (cell (up c j) (kRecv j)) 0 0)

/-- The rights to wait that the launch gives: for the barrier's seven units and for each slot's credit. -/
def credits (c : Dev nD) : sProp 𝕄 :=
  iprop(cred (tallyAt (cell c kBar) () 7) ∗ bigSep Finset.univ fun j => cred (tallyAt (cell c (kRecv j)) () N))

/-- What the exchange starts from on device `c`. -/
def start (c : Dev nD) : sProp 𝕄 :=
  iprop((∃ K, records m K ∗ seats c ∗ rights c) ∗ credits c ∗ levAts lab lvl)

/-- The communication buffer of device `c`, whole. -/
def bufPts (c : Dev nD) (f : Buf (Elt F) ((c : Thread nD τ).loc cc0_scratch0)) : sProp 𝕄 :=
  ((c : Thread nD τ).loc cc0_scratch0) ↦{fullShare} f

/-- All of a device's cells done with, their counters at zero. -/
def zeros (c : Dev nD) : sProp 𝕄 :=
  iprop(semVal (cell c kBar) 0 ∗ (bigSep Finset.univ fun j => semVal (cell c (kSend j)) 0)
    ∗ bigSep Finset.univ fun j => semVal (cell c (kRecv j)) 0)

def Φ₀ (c : Dev nD) : sProp 𝕄 := iprop(start m c ∗ ∃ f, bufPts c f)
def Φ₁ (c : Dev nD) : sProp 𝕄 := iprop(bufPts c (comm m c) ∗ zeros c)

/-- The proof data of the one launch. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => lIn m c
    | ⟨3, _⟩ => result m c
  Φ t := match t with
    | ⟨0, _⟩ => Φ₀ m c
    | ⟨_ + 1, _⟩ => Φ₁ m c
  q _ := fullShare
  owed t := match t with
    | ⟨0, _⟩ => owe c Finset.univ Finset.univ
    | ⟨_ + 1, _⟩ => 0

theorem fetch_in0 (t : Fin cfg0.N) : (cfg0.win (0 : Fin 4)).fetch t = true := by rw [fin_N0 t]; rfl
theorem fetch_in1 (t : Fin cfg0.N) : (cfg0.win (1 : Fin 4)).fetch t = true := by rw [fin_N0 t]; rfl
theorem fetch_in2 (t : Fin cfg0.N) : (cfg0.win (2 : Fin 4)).fetch t = true := by rw [fin_N0 t]; rfl

/-! ## Reads and the write of whole buffers -/

theorem off1 : (![0] : Fin 1 → Nat) = fun _ => 0 := funext fun a => by fin_cases a; rfl
theorem off2 : (![0, 0] : Fin 2 → Nat) = fun _ => 0 := funext fun a => by fin_cases a <;> rfl
theorem off3 : (![0, 0, 0] : Fin 3 → Nat) = fun _ => 0 := funext fun a => by fin_cases a <;> rfl

section Whole
variable (c : Dev nD) {α : Type}

/-- A load of the whole of a staging buffer, or of the communication buffer, continues at its contents; -/
theorem load_x (f : Buf (Elt F) ((c : Thread nD τ).loc cc0_stg0_0)) {hl : (Memref.whole cc0_stg0_0).view.LoadsAt (Rect.unit (s := S256x512) ![0, 0] S256x512.size inb_S256x512_S256x512_0_0).toLoadRect}
    {Q : α → sProp 𝕄} {k : Vec F S256x512 .bf16 → Prog (TpuEff nD τ sig (Elt F) Λ₀ .tc) α} :
    (((c : Thread nD τ).loc cc0_stg0_0) ↦{fullShare} f : sProp 𝕄)
      ⊢ iprop(((((c : Thread nD τ).loc cc0_stg0_0) ↦{fullShare} f) -∗ wpc c (k f) Q)
        -∗ wpc c (.op (.load (Memref.whole cc0_stg0_0) (Rect.unit (s := S256x512) ![0, 0] S256x512.size inb_S256x512_S256x512_0_0).toLoadRect hl) k) Q) := by
  have h := wp_load 𝒱₀ (c : Thread nD τ) none Set.univ (defs := defs₀ (F := F)) (Γ := .empty) (Q := Q) (m := Memref.whole cc0_stg0_0) (hl := hl) (k := k) (q := fullShare) (f := f) (Finset.subset_univ _)
  have e : (Memref.whole cc0_stg0_0).view.readAt (Elt F) (Rect.unit (s := S256x512) ![0, 0] S256x512.size inb_S256x512_S256x512_0_0).toLoadRect f = f :=
    Memref.readAt_unit_zero (Elt F) cc0_stg0_0 off2 _ f
  rw [e] at h
  exact h

theorem load_w (f : Buf (Elt F) ((c : Thread nD τ).loc cc0_stg1_0)) {hl : (Memref.whole cc0_stg1_0).view.LoadsAt (Rect.unit (s := S512x4096) ![0, 0] S512x4096.size inb_S512x4096_S512x4096_0_0).toLoadRect}
    {Q : α → sProp 𝕄} {k : Vec F S512x4096 .bf16 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ wpc c (k f) Q)
        -∗ wpc c (.op (.load (Memref.whole cc0_stg1_0) (Rect.unit (s := S512x4096) ![0, 0] S512x4096.size inb_S512x4096_S512x4096_0_0).toLoadRect hl) k) Q) := by
  have h := wp_load 𝒱₀ (c : Thread nD τ) none Set.univ (defs := defs₀ (F := F)) (Γ := .empty) (Q := Q) (m := Memref.whole cc0_stg1_0) (hl := hl) (k := k) (q := fullShare) (f := f) (Finset.subset_univ _)
  have e : (Memref.whole cc0_stg1_0).view.readAt (Elt F) (Rect.unit (s := S512x4096) ![0, 0] S512x4096.size inb_S512x4096_S512x4096_0_0).toLoadRect f = f :=
    Memref.readAt_unit_zero (Elt F) cc0_stg1_0 off2 _ f
  rw [e] at h
  exact h

theorem load_l (f : Buf (Elt F) ((c : Thread nD τ).loc cc0_stg2_0)) {hl : (Memref.whole cc0_stg2_0).view.LoadsAt (Rect.unit (s := S256) ![0] S256.size inb_S256_S256_0).toLoadRect}
    {Q : α → sProp 𝕄} {k : Vec F S256 .i32 → Prog (TpuEff nD τ sig (Elt F) Λ₀ .tc) α} :
    (((c : Thread nD τ).loc cc0_stg2_0) ↦{fullShare} f : sProp 𝕄)
      ⊢ iprop(((((c : Thread nD τ).loc cc0_stg2_0) ↦{fullShare} f) -∗ wpc c (k f) Q)
        -∗ wpc c (.op (.load (Memref.whole cc0_stg2_0) (Rect.unit (s := S256) ![0] S256.size inb_S256_S256_0).toLoadRect hl) k) Q) := by
  have h := wp_load 𝒱₀ (c : Thread nD τ) none Set.univ (defs := defs₀ (F := F)) (Γ := .empty) (Q := Q) (m := Memref.whole cc0_stg2_0) (hl := hl) (k := k) (q := fullShare) (f := f) (Finset.subset_univ _)
  have e : (Memref.whole cc0_stg2_0).view.readAt (Elt F) (Rect.unit (s := S256) ![0] S256.size inb_S256_S256_0).toLoadRect f = f :=
    Memref.readAt_unit_zero (Elt F) cc0_stg2_0 off1 _ f
  rw [e] at h
  exact h

theorem load_comm (f : Buf (Elt F) ((c : Thread nD τ).loc cc0_scratch0)) {hl : (Memref.whole cc0_scratch0).view.LoadsAt (Rect.unit (s := S8x2x256) ![0, 0, 0] S8x2x256.size inb_S8x2x256_S8x2x256_0_0_0).toLoadRect}
    {Q : α → sProp 𝕄} {k : Vec F S8x2x256 .f32 → Prog (TpuEff nD τ sig (Elt F) Λ₀ .tc) α} :
    (((c : Thread nD τ).loc cc0_scratch0) ↦{fullShare} f : sProp 𝕄)
      ⊢ iprop(((((c : Thread nD τ).loc cc0_scratch0) ↦{fullShare} f) -∗ wpc c (k f) Q)
        -∗ wpc c (.op (.load (Memref.whole cc0_scratch0) (Rect.unit (s := S8x2x256) ![0, 0, 0] S8x2x256.size inb_S8x2x256_S8x2x256_0_0_0).toLoadRect hl) k) Q) := by
  have h := wp_load 𝒱₀ (c : Thread nD τ) none Set.univ (defs := defs₀ (F := F)) (Γ := .empty) (Q := Q) (m := Memref.whole cc0_scratch0) (hl := hl) (k := k) (q := fullShare) (f := f) (Finset.subset_univ _)
  have e : (Memref.whole cc0_scratch0).view.readAt (Elt F) (Rect.unit (s := S8x2x256) ![0, 0, 0] S8x2x256.size inb_S8x2x256_S8x2x256_0_0_0).toLoadRect f = f :=
    Memref.readAt_unit_zero (Elt F) cc0_scratch0 off3 _ f
  rw [e] at h
  exact h

/-- the store of the result leaves it; -/
theorem store_out (f : Buf (Elt F) ((c : Thread nD τ).loc cc0_stg3_0)) (w : Vec F S256 .f32)
    {hx : ((Memref.whole cc0_stg3_0).access (Rect.unit (s := S256) ![0] S256.size inb_S256_S256_0)).Stores Finset.univ}
    {hm : (Finset.univ : Finset S256.Idx) = Finset.univ ∨ ∀ a, (Rect.unit (s := S256) ![0] S256.size inb_S256_S256_0).stride a = 1}
    {Q : α → sProp 𝕄} {k : PUnit → Prog (TpuEff nD τ sig (Elt F) Λ₀ .tc) α} :
    (((c : Thread nD τ).loc cc0_stg3_0) ↦{fullShare} f : sProp 𝕄)
      ⊢ iprop(((((c : Thread nD τ).loc cc0_stg3_0) ↦{fullShare} (w : Buf (Elt F) ((c : Thread nD τ).loc cc0_stg3_0))) -∗ wpc c (k ⟨⟩) Q)
        -∗ wpc c (.op (.store (Memref.whole cc0_stg3_0) (Rect.unit (s := S256) ![0] S256.size inb_S256_S256_0) w Finset.univ hx hm) k) Q) := by
  have h := wp_store 𝒱₀ (c : Thread nD τ) none Set.univ (defs := defs₀ (F := F)) (Γ := .empty) (Q := Q) (m := Memref.whole cc0_stg3_0) (hx := hx) (hm := hm) (w := w) (k := k) (f := f) (Finset.subset_univ _)
  have e : ((Memref.whole cc0_stg3_0).access (Rect.unit (s := S256) ![0] S256.size inb_S256_S256_0) : View sig .tc _ _ _).write (Elt F) f w Finset.univ = w :=
    Memref.write_access_unit_zero_univ (Elt F) cc0_stg3_0 off1 _ f w
  rw [e] at h
  exact h

/-- and a program that has returned is done. -/
theorem returned {Q : α → sProp 𝕄} (x : α) : iprop(|={Set.univ}=> Q x) ⊢ wpc c (.ret x) Q := by
  unfold wpc; rw [wp_ret]

end Whole

theorem slot0_access : ((Memref.whole cc0_scratch0).access (slotRect 0) : View sig .tc _ _ _).set = slotSet 0 := by
  rw [slotSet_eq]; exact View.set_slice_whole _ _

/-- The kernel's own rows stored: slot `0` holds what it is to hold. -/
theorem slot0_stored (c : Dev nD) (f : Buf (Elt F) ((c : Thread nD τ).loc cc0_scratch0)) :
    (((Memref.whole cc0_scratch0).access (slotRect 0)).loc (c : Thread nD τ) ↦[slotSet 0]{fullShare}
        (((Memref.whole cc0_scratch0).access (slotRect 0) : View sig .tc _ _ _).write (Elt F) f (part m c) Finset.univ) : sProp 𝕄)
      ⊢ slotPts c 0 fullShare (comm m c) :=
  Entails.of_eq (pointsTo_congr (store_agrees m c f))

/-! ## The states between the phases -/

theorem sig_one (c : Dev nD) (j : Fin 7) (f : Buf (Elt F) ((c : Thread nD τ).loc cc0_scratch0)) :
    iprop(slotPts c (Fin.rev j).succ fullShare f ∗ dutyTok ER (cell (up c j) kBar) 0 (Fin.rev j)) ⊢ (sigNeed c j : sProp 𝕄) := by
  unfold sigNeed
  iintro ⟨Hs, Ht⟩
  isplitl [Ht]; · iexact Ht
  iexists f; iexact Hs

/-- The slots and the rights to pay barriers are what the signals take. -/
theorem sig_start (c : Dev nD) (f : Buf (Elt F) ((c : Thread nD τ).loc cc0_scratch0)) :
    iprop((bigSep Finset.univ fun j : Fin 7 => slotPts c j.succ fullShare f)
        ∗ bigSep Finset.univ fun j : Fin 7 => dutyTok ER (cell (up c j) kBar) 0 (Fin.rev j))
      ⊢ (bigSep Finset.univ fun j : Fin 7 => sigNeed c j : sProp 𝕄) := by
  rw [bigSep_univ_equiv Fin.revPerm (Φ := fun j : Fin 7 => (slotPts c j.succ fullShare f : sProp 𝕄)), ← BI.bigSep_sep']
  exact BI.bigSep_mono fun j _ => sig_one c j f

/-- The shares of slot `0`, the slots the barrier handed over and the rights to pay are what the copies take. -/
theorem send_start (c : Dev nD) :
    iprop(slotPts c 0 fullShare (comm m c) ∗ (bigSep Finset.univ fun j => barPay c j)
        ∗ (bigSep Finset.univ fun j : Fin 7 => dutyTok ER (cell c (kSend j)) 0 0)
        ∗ bigSep Finset.univ fun j : Fin 7 => dutyTok ER (cell (up c j) (kRecv j)) 0 0)
      ⊢ (iprop(slotPts c 0 (shareDrop fullShare 7) (comm m c) ∗ bigSep Finset.univ fun j : Fin 7 => sendNeed m c j) : sProp 𝕄) := by
  unfold sendNeed
  rw [BI.bigSep_sep', BI.bigSep_sep', BI.bigSep_sep']
  iintro ⟨H0, Hb, Hs, Hr⟩
  ihave H := (Transfers.pointsTo_toks_split (ℓ := (c : Thread nD τ).loc cc0_scratch0) (S := slotSet 0) (f := comm m c) fullShare 7) $$ [H0]
  · unfold slotPts; iexact H0
  icases H with ⟨Hd, Ht⟩
  isplitl [Hd]; · unfold slotPts; iexact Hd
  isplitl [Ht]; · unfold slotPts; iexact Ht
  isplitl [Hb]; · iexact Hb
  isplitl [Hs] <;> iassumption

/-- The credits and the positions are what the waits take. -/
theorem wait_start (c : Dev nD) (side : Fin 7 → Fin 7 ⊕ Fin 7) :
    iprop((bigSep Finset.univ fun j => cred (tallyAt (cell c (.inr (side j))) () N))
        ∗ bigSep Finset.univ fun j => atPos ER (cell c (.inr (side j))) 0 ∅ 0)
      ⊢ (bigSep Finset.univ fun j => waitNeed c (side j) : sProp 𝕄) := by
  unfold waitNeed
  rw [BI.bigSep_sep']

/-- A family of which nothing is to come any more is all done. -/
theorem wait_end (c : Dev nD) (side : Fin 7 → Fin 7 ⊕ Fin 7) (T : Finset (Fin 7)) (hT : T = ∅) :
    waitSt m c side T
      ⊢ (iprop(debt c ∅ ∅ ∗ (bigSep Finset.univ fun j => semVal (cell c (.inr (side j))) 0)
          ∗ bigSep Finset.univ fun j => payOf m c 0 (some (.inr (side j)))) : sProp 𝕄) := by
  subst hT
  unfold waitSt waitGain
  rw [Finset.compl_empty, BI.bigSep_sep']
  iintro ⟨HO, -, Hz, Hp⟩
  isplitl [HO]; · iexact HO
  isplitl [Hz] <;> iassumption

theorem send_end (c : Dev nD) (T : Finset (Fin 7)) (hT : T = ∅) :
    sendSt m c T ⊢ (iprop(debt c ∅ ∅ ∗ bigSep Finset.univ fun j => cred (tallyAt (cell c (kSend j)) () N)) : sProp 𝕄) := by
  subst hT
  unfold sendSt
  rw [Finset.compl_empty]
  iintro ⟨HO, -, Hc⟩
  isplitl [HO] <;> iassumption

/-- The slots received, and slot `0` with all its shares back, are the whole buffer. -/
theorem buffer_back (c : Dev nD) :
    iprop((bigSep Finset.univ fun j : Fin 7 => payOf m c 0 (some (kRecv j)))
        ∗ slotPts c 0 (shareDrop fullShare 7) (comm m c)
        ∗ bigSep Finset.univ fun j : Fin 7 => payOf m c 0 (some (kSend j)))
      ⊢ (bufPts c (comm m c) : sProp 𝕄) := by
  unfold bufPts
  rw [buffer_slots]
  iintro ⟨Hr, Hd, Hs⟩
  isplitr [Hr]
  · unfold slotPts
    iapply (Transfers.pointsTo_toks_join (ℓ := (c : Thread nD τ).loc cc0_scratch0) (S := slotSet 0) (f := comm m c) fullShare 7)
    isplitl [Hd]; · iexact Hd
    iexact Hs
  iexact Hr

/-! ## The body -/

/-- A staging buffer holding contents known by an equation. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ ∗ stg c cc0_stg0_0 (xIn m c) ∗ stg c cc0_stg1_0 (wIn m c)
    ∗ stg c cc0_stg2_0 (lIn m c) ∗ stg c cc0_stg3_0 (result m c))

set_option maxHeartbeats 4000000 in
set_option maxRecDepth 65536 in
/-- The body, from `bodyPre` to `bodyPost`, one step per effect in program order. -/
theorem sound_body (c : Dev nD) (Kt : PUnit → sProp 𝕄) :
    iprop(bodyPre m c ∗ (bodyPost m c -∗ Kt ⟨⟩))
      ⊢ wpc c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) cc0_scratch1 cc0_scratch2) Kt := by
  simp only [cc0_body_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton]
  unfold cc0_body_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton]
  unfold k0_part1_skel k0_part2_skel k0_part3_skel k0_part4_skel k0_part5_skel k0_part6_skel k0_part7_skel k0_part8_skel
    k0_part9_skel k0_part10_skel k0_part11_skel k0_part12_skel
  simp only [semSignalWord, semWaitWord, Prog.lift, Prog.bind_op, Prog.bind_ret, Prog.pure_eq_ret, wp_deviceId]
  unfold bodyPre Φ₀ start seats rights credits
  iintro ⟨⟨⟨⟨⟨%K, #HR, ⟨HatB, HatS, HatV⟩, HtB, HtS, HtV⟩, ⟨HcB, HcV⟩, #HL⟩, ⟨%f0, Hbuf⟩⟩, Ho,
    ⟨%d0, %g0, %hg0, Hx⟩, ⟨%d1, %g1, %hg1, Hw⟩, ⟨%d2, %g2, %hg2, Hl⟩, ⟨%d3, %g3, %hg3, Hout⟩⟩, Hk⟩
  have hx : g0 = xIn m c := by rw [hg0]; unfold Dat.before; rw [if_pos (fetch_in0 t0_0)]; rfl
  have hw : g1 = wIn m c := by rw [hg1]; unfold Dat.before; rw [if_pos (fetch_in1 t0_0)]; rfl
  have hl : g2 = lIn m c := by rw [hg2]; unfold Dat.before; rw [if_pos (fetch_in2 t0_0)]; rfl
  subst hx hw hl
  unfold Dat.owesAt Pipeline.owesWithin
  icases Ho with ⟨%W, %hW, HO⟩
  rw [show (dats m 0 c).owed t0_0.castSucc = owe c Finset.univ Finset.univ from rfl]
  unfold bufPts
  ihave Hb := (Entails.of_eq (buffer_slots c f0)) $$ Hbuf
  icases Hb with ⟨H0, Hslots⟩
  -- the seven signals
  ihave HS := (sig_start c f0) $$ [Hslots HtB]
  · isplitl [Hslots] <;> iassumption
  ihave HS : sigSt c Finset.univ $$ [HO HS]
  · unfold sigSt debt
    isplitl [HO]
    · iexists W; iexact HO
    iexact HS
  iapply (step_signal m K c _ 0 (by decide) _ (dev1_eq c) _ rfl) $$ HR HS; iintro HS
  iapply (step_signal m K c _ 1 (by decide) _ (dev2_eq c) _ rfl) $$ HR HS; iintro HS
  iapply (step_signal m K c _ 2 (by decide) _ (dev3_eq c) _ rfl) $$ HR HS; iintro HS
  iapply (step_signal m K c _ 3 (by decide) _ (dev4_eq c) _ rfl) $$ HR HS; iintro HS
  iapply (step_signal m K c _ 4 (by decide) _ (dev5_eq c) _ rfl) $$ HR HS; iintro HS
  iapply (step_signal m K c _ 5 (by decide) _ (dev6_eq c) _ rfl) $$ HR HS; iintro HS
  iapply (step_signal m K c _ 6 (by decide) _ (dev7_eq c) _ rfl) $$ HR HS; iintro HS
  unfold sigSt
  icases HS with ⟨HO, -⟩
  -- the loads, and the rows computed into slot 0
  iapply (load_x c (xIn m c)) $$ Hx; iintro Hx
  iapply (load_w c (wIn m c)) $$ Hw; iintro Hw
  iapply (load_l c (lIn m c)) $$ Hl; iintro Hl
  unfold slotPts
  iapply (wp_load_rect 𝒱₀ (c : Thread nD τ) none Set.univ (m := Memref.whole cc0_scratch0) (r := slotRect 0) (S := slotSet 0)
    (Finset.Subset.antisymm_iff.mp slot0_access).1) $$ H0; iintro H0
  iapply (wp_store 𝒱₀ (c : Thread nD τ) none Set.univ (m := Memref.whole cc0_scratch0) (r := slotRect 0) (Mk := Finset.univ) (S := slotSet 0)
    (Finset.Subset.antisymm_iff.mp slot0_access).1) $$ H0; iintro H0
  ihave H0 := (slot0_stored m c f0) $$ [H0]
  · unfold part axisIdx; iexact H0
  -- the barrier
  iapply (step_barrier m K c _ rfl) $$ [HO HcB HatB]
  · isplitr; · iexact HR
    isplitr; · iexact HL
    isplitl [HO]; · iexact HO
    isplitl [HcB] <;> iassumption
  iintro ⟨HO, HzB, Hbar⟩
  -- the seven copies
  ihave HS := (send_start m c) $$ [H0 Hbar HtS HtV]
  · isplitl [H0]; · iexact H0
    isplitl [Hbar]; · iexact Hbar
    isplitl [HtS] <;> iassumption
  icases HS with ⟨Hdrop, HS⟩
  ihave HS : sendSt m c Finset.univ $$ [HO HS]
  · unfold sendSt
    rw [Finset.compl_univ, BI.bigSep_empty]
    isplitl [HO]; · iexact HO
    isplitl [HS]; · iexact HS
    iempintro
  iapply (step_send m K c _ 3 (by decide) _ (dev8_eq c) _ _ rfl rfl _ _ rfl rfl) $$ HR HS; iintro HS
  iapply (step_send m K c _ 2 (by decide) _ (dev9_eq c) _ _ rfl rfl _ _ rfl rfl) $$ HR HS; iintro HS
  iapply (step_send m K c _ 4 (by decide) _ (dev10_eq c) _ _ rfl rfl _ _ rfl rfl) $$ HR HS; iintro HS
  iapply (step_send m K c _ 1 (by decide) _ (dev11_eq c) _ _ rfl rfl _ _ rfl rfl) $$ HR HS; iintro HS
  iapply (step_send m K c _ 5 (by decide) _ (dev12_eq c) _ _ rfl rfl _ _ rfl rfl) $$ HR HS; iintro HS
  iapply (step_send m K c _ 0 (by decide) _ (dev13_eq c) _ _ rfl rfl _ _ rfl rfl) $$ HR HS; iintro HS
  iapply (step_send m K c _ 6 (by decide) _ (dev14_eq c) _ _ rfl rfl _ _ rfl rfl) $$ HR HS; iintro HS
  ihave HS := (send_end m c _ (by decide)) $$ HS
  icases HS with ⟨HO, HcS⟩
  -- the waits for the copies received
  ihave HS := (wait_start c .inr) $$ [HcV HatV]
  · isplitl [HcV] <;> iassumption
  ihave HS : waitSt m c .inr Finset.univ $$ [HO HS]
  · unfold waitSt
    rw [Finset.compl_univ, BI.bigSep_empty]
    isplitl [HO]; · iexact HO
    isplitl [HS]; · iexact HS
    iempintro
  iapply (step_wait m K c .inr _ 3 (by decide) (Fin.succ 3) _ _ rfl _ rfl) $$ HR HS; iintro HS
  iapply (step_wait m K c .inr _ 2 (by decide) (Fin.succ 2) _ _ rfl _ rfl) $$ HR HS; iintro HS
  iapply (step_wait m K c .inr _ 4 (by decide) (Fin.succ 4) _ _ rfl _ rfl) $$ HR HS; iintro HS
  iapply (step_wait m K c .inr _ 1 (by decide) (Fin.succ 1) _ _ rfl _ rfl) $$ HR HS; iintro HS
  iapply (step_wait m K c .inr _ 5 (by decide) (Fin.succ 5) _ _ rfl _ rfl) $$ HR HS; iintro HS
  iapply (step_wait m K c .inr _ 0 (by decide) (Fin.succ 0) _ _ rfl _ rfl) $$ HR HS; iintro HS
  iapply (step_wait m K c .inr _ 6 (by decide) (Fin.succ 6) _ _ rfl _ rfl) $$ HR HS; iintro HS
  ihave HS := (wait_end m c _ _ (by decide)) $$ HS
  icases HS with ⟨HO, HzV, HpV⟩
  -- the waits for the copies sent
  ihave HS := (wait_start c .inl) $$ [HcS HatS]
  · isplitl [HcS] <;> iassumption
  ihave HS : waitSt m c .inl Finset.univ $$ [HO HS]
  · unfold waitSt
    rw [Finset.compl_univ, BI.bigSep_empty]
    isplitl [HO]; · iexact HO
    isplitl [HS]; · iexact HS
    iempintro
  iapply (step_wait m K c .inl _ 3 (by decide) 0 _ _ rfl _ rfl) $$ HR HS; iintro HS
  iapply (step_wait m K c .inl _ 2 (by decide) 0 _ _ rfl _ rfl) $$ HR HS; iintro HS
  iapply (step_wait m K c .inl _ 4 (by decide) 0 _ _ rfl _ rfl) $$ HR HS; iintro HS
  iapply (step_wait m K c .inl _ 1 (by decide) 0 _ _ rfl _ rfl) $$ HR HS; iintro HS
  iapply (step_wait m K c .inl _ 5 (by decide) 0 _ _ rfl _ rfl) $$ HR HS; iintro HS
  iapply (step_wait m K c .inl _ 0 (by decide) 0 _ _ rfl _ rfl) $$ HR HS; iintro HS
  iapply (step_wait m K c .inl _ 6 (by decide) 0 _ _ rfl _ rfl) $$ HR HS; iintro HS
  ihave HS := (wait_end m c _ _ (by decide)) $$ HS
  icases HS with ⟨HO, HzS, HpS⟩
  -- the whole buffer, and the result
  ihave Hbuf := (buffer_back m c) $$ [HpV Hdrop HpS]
  · isplitl [HpV]; · iexact HpV
    isplitl [Hdrop] <;> iassumption
  unfold bufPts
  iapply (load_comm c (comm m c)) $$ Hbuf; iintro Hbuf
  iapply (wp_load 𝒱₀ (c : Thread nD τ) none Set.univ (m := Memref.whole cc0_stg3_0) (Finset.subset_univ _)) $$ Hout; iintro Hout
  iapply (store_out c _ _) $$ Hout; iintro Hout
  iapply (returned c _)
  imodintro
  iapply Hk
  unfold bodyPost Φ₁ zeros bufPts Dat.owesAt Pipeline.owesWithin debt
  rw [show (dats m 0 c).owed t0_0.succ = 0 from rfl, owe_none]
  icases HO with ⟨%W', HO⟩
  isplitl [Hbuf HzB HzV HzS]
  · isplitl [Hbuf]; · iexact Hbuf
    isplitl [HzB]; · iexact HzB
    isplitl [HzS] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hout

/-- Owning a whole buffer at known contents, spelt with the buffer's points-to. -/
theorem owns_whole_stg (c : Dev nD) (b : Ref sig .tc) (X : b.ty.Contents (Elt F)) :
    (owns (c : Thread nD τ) (Memref.whole b) fullShare X : sProp 𝕄) = stg c b X := by
  unfold owns; simp only [Memref.view_whole, View.read_whole, View.set_whole]

set_option maxRecDepth 65536 in
/-- What the launch asks of the body on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_stg]
  show bodyPre m c ⊢ wpc c
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m c)
  iintro H
  iapply (sound_body m c fun _ => bodyPost m c)
  isplitl [H]; · iexact H
  iintro H; iexact H

end Cert.Exchange
-- ==== Proof.Launch.lean ====
/-
The launch: every device's cells put under the schedule, the rights to pay dealt from the cells' owners to the
devices that pay, and the run of the eight kernels from any memory with all counters at zero.
-/
module

public import proofs.«01_k».proof.Proof.Body
public import Idealize.ShloMosaic.Lib.Pipeline.Value
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights to pay, listed -/

/-- The semaphores the kernel allocates and uses: one per copy sent, one per copy received. -/
abbrev osem : Fin 7 ⊕ Fin 7 → SemLoc sig := fun k => csem (.inr k)

theorem own_facts : Pipeline.OwnSemFacts cfg0.spec osem := by decide

theorem share_eq (c : Dev nD) (w : Fin cfg0.W) : (dats m 0 c).share w = fullShare := by
  unfold Dat.share; split <;> rfl

theorem cell_inj {c c' : Dev nD} {k k' : Kd} (h : cell c k = cell c' k') : c = c' ∧ k = k' := by
  have h1 : c = c' := congrArg (fun g : GSem nD τ sig => g.1.1) h
  have h2 : csem k = csem k' := congrArg Prod.snd h
  exact ⟨h1, Option.some.inj ((kindOf_csem k).symm.trans ((congrArg kindOf h2).trans (kindOf_csem k')))⟩

/-- All cells of the mesh. -/
def allCells : Finset (GSem nD τ sig) :=
  Finset.univ.map ⟨fun ck : Dev nD × Kd => cell ck.1 ck.2, fun _ _ h => Prod.ext (cell_inj h).1 (cell_inj h).2⟩

/-- A device's duties: seven of its barrier, one of each other cell. -/
abbrev dutyAt (cx : Dev nD × (Fin 7 ⊕ (Fin 7 ⊕ Fin 7))) : GSem nD τ sig × ℕ × Fin 7 :=
  match cx.2 with
  | .inl k => (cell cx.1 kBar, 0, k)
  | .inr k => (cell cx.1 (.inr k), 0, 0)

theorem dutyAt_inj : Function.Injective dutyAt := by
  rintro ⟨c, x⟩ ⟨c', x'⟩ h
  rcases x with k | k <;> rcases x' with k' | k'
  · have h1 := cell_inj (congrArg Prod.fst h)
    have h2 : k = k' := congrArg (fun y : GSem nD τ sig × ℕ × Fin 7 => y.2.2) h
    exact Prod.ext h1.1 (congrArg Sum.inl h2)
  · exact absurd (cell_inj (congrArg Prod.fst h)).2 (by simp)
  · exact absurd (cell_inj (congrArg Prod.fst h)).2 (by simp)
  · have h1 := cell_inj (congrArg Prod.fst h)
    exact Prod.ext h1.1 (congrArg Sum.inr (Sum.inr.inj h1.2))

/-- The rights to pay all duties of the mesh. -/
def allDuties : Finset (GSem nD τ sig × ℕ × Fin 7) := Finset.univ.map ⟨dutyAt, dutyAt_inj⟩

/-- The exchange's ghost state at launch, beside the pipeline's. -/
def u₀ : UU :=
  (initOf (Pipeline.cells cfgs cellOf_inj) (Pipeline.launchToks cfgs cellOf_inj), initOf allCells allDuties)

/-- A separating conjunction over a device's cells, by their kinds. -/
theorem by_kind (Φ : Kd → sProp 𝕄) :
    bigSep Finset.univ Φ = iprop(Φ kBar ∗ (bigSep Finset.univ fun j => Φ (kSend j)) ∗ bigSep Finset.univ fun j => Φ (kRecv j)) := by
  rw [BI.bigSep_univ_sum, BI.bigSep_univ_sum, Finset.univ_unique, BI.bigSep_singleton]; rfl

/-- The rights to pay the duties of device `c`'s own cells, as they are made. -/
def minted (c : Dev nD) : sProp 𝕄 :=
  iprop((bigSep Finset.univ fun k => dutyTok ER (cell c kBar) 0 k)
    ∗ (bigSep Finset.univ fun j => dutyTok ER (cell c (kSend j)) 0 0)
    ∗ bigSep Finset.univ fun j => dutyTok ER (cell c (kRecv j)) 0 0)

/-- What the launch makes for device `c`. -/
def G (c : Dev nD) : sProp 𝕄 :=
  iprop((bigSep Finset.univ fun k : Kd => roundState ER (sched m) (cell c k) 0)
    ∗ (bigSep Finset.univ fun k : Kd => atPos ER (cell c k) 0 ∅ 0)
    ∗ (bigSep Finset.univ fun k : Kd => reached ER (cell c k) 0) ∗ minted c)

/-- What device `c` enters its kernel with. -/
def G' (c : Dev nD) : sProp 𝕄 := iprop(∃ K, records m K ∗ seats c ∗ rights c)

theorem over_cells (Φ : GSem nD τ sig → sProp 𝕄) :
    bigSep allCells Φ = bigSep Finset.univ fun c : Dev nD => bigSep Finset.univ fun k : Kd => Φ (cell c k) := by
  unfold allCells; rw [BI.bigSep_map, BI.bigSep_univ_prod]; rfl

theorem over_duties :
    bigSep allDuties (fun x => (dutyTok ER x.1 x.2.1 x.2.2 : sProp 𝕄)) = bigSep Finset.univ fun c : Dev nD => minted c := by
  unfold allDuties
  rw [BI.bigSep_map, BI.bigSep_univ_prod]
  refine BI.bigSep_congr fun c _ => ?_
  unfold minted
  rw [BI.bigSep_univ_sum, BI.bigSep_univ_sum]; rfl

/-- The launch element gives every device its share. -/
theorem fund : BI.own (ER (initOf allCells allDuties)) ⊢ (|==> bigSep Finset.univ (G m) : sProp 𝕄) := by
  iintro HX
  imod (Rounds.fund ER (sched m) allCells allDuties) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_duties (F := F))) $$ Htok
  unfold G; simp only [bigSep_sep']
  isplitl [Hst]; · iexact Hst
  isplitl [Hat]; · iexact Hat
  isplitl [Hr] <;> iassumption

/-! ## The cells under the schedule -/

theorem own_eq (c : Dev nD) :
    (Pipeline.ownSems0 (Ix := Unit) (Name := ℕ) (U := UU) (Lvl := ℕ) (Val := Elt F) (τ := τ) osem c : sProp 𝕄)
      = iprop((bigSep Finset.univ fun j => semVal (cell c (kSend j)) 0) ∗ bigSep Finset.univ fun j => semVal (cell c (kRecv j)) 0) := by
  unfold Pipeline.ownSems0; rw [BI.bigSep_univ_sum]; rfl

/-- The barrier is the one semaphore that outlives the kernel. -/
theorem unscoped_eq (c : Dev nD) : (unscopedSems0 c : sProp 𝕄) = semVal (cell c kBar) 0 := by
  unfold unscopedSems0; rw [bigSep_eq_bigSepL_of_eq [SemLoc.reg barS] (by decide) (by decide)]; rfl

/-- A device's counters at zero, one per cell. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (cell c k) 0 : sProp 𝕄) := by
  rw [own_eq, unscoped_eq, by_kind]
  iintro ⟨⟨HS, HV⟩, HB⟩
  isplitl [HB]; · iexact HB
  isplitl [HS] <;> iassumption

/-- A device's counters and round states become its cells' invariants. -/
theorem invariants (c : Dev nD) :
    iprop((bigSep Finset.univ fun k : Kd => semVal (cell c k) 0) ∗ bigSep Finset.univ fun k : Kd => roundState ER (sched m) (cell c k) 0)
      ⊢ (|={Set.univ}=> bigSep Finset.univ fun k => iprop(∃ κ : ℕ, cellInv ER (sched m) κ (cell c k)) : sProp 𝕄) := by
  rw [← bigSep_sep']
  exact (bigSep_mono fun k _ => (Rounds.body_intro ER (sched m) (cell c k)).trans inv_alloc).trans (bigSep_fupd _ _)

/-- What device `c` has once its cells are under the schedule. -/
def mine (c : Dev nD) : sProp 𝕄 :=
  iprop((bigSep Finset.univ fun k => iprop(∃ κ : ℕ, cellInv ER (sched m) κ (cell c k)))
    ∗ (bigSep Finset.univ fun k : Kd => atPos ER (cell c k) 0 ∅ 0)
    ∗ (bigSep Finset.univ fun k : Kd => reached ER (cell c k) 0) ∗ minted c)

theorem opened (c : Dev nD) :
    iprop(Pipeline.ownSems0 (Ix := Unit) (Name := ℕ) (U := UU) (Lvl := ℕ) (Val := Elt F) (τ := τ) osem c ∗ unscopedSems0 c ∗ G m c)
      ⊢ |={Set.univ}=> mine m c := by
  unfold G mine
  iintro ⟨Hos, Hus, Hst, Hat, Hr, Htok⟩
  ihave Hv := (counters (F := F) c) $$ [Hos Hus]
  · isplitl [Hos] <;> iassumption
  imod (invariants m c) $$ [Hv Hst] with Hinv
  · isplitl [Hv] <;> iassumption
  imodintro
  isplitl [Hinv]; · iexact Hinv
  isplitl [Hat]; · iexact Hat
  isplitl [Hr] <;> iassumption

/-! ## The rights dealt to the devices that pay -/

/-- Per distance, what every device holds is what every device's partner at that distance holds. -/
theorem around (Φ : Fin 7 → Dev nD → sProp 𝕄) :
    (bigSep Finset.univ fun c => bigSep Finset.univ fun j => Φ j c)
      = bigSep Finset.univ fun c => bigSep Finset.univ fun j => Φ j (up c j) := by
  rw [BI.bigSep_univ_comm, BI.bigSep_congr fun j _ => BI.bigSep_univ_equiv (upEquiv j) (Φ j), BI.bigSep_univ_comm]
  rfl

theorem deal : (bigSep Finset.univ fun c : Dev nD => (minted c : sProp 𝕄)) ⊢ bigSep Finset.univ fun c : Dev nD => rights c := by
  have hb : (bigSep Finset.univ fun c : Dev nD => bigSep Finset.univ fun k => (dutyTok ER (cell c kBar) 0 k : sProp 𝕄))
      = bigSep Finset.univ fun c : Dev nD => bigSep Finset.univ fun j => dutyTok ER (cell (up c j) kBar) 0 (Fin.rev j) := by
    rw [← around fun j c => (dutyTok ER (cell c kBar) 0 (Fin.rev j) : sProp 𝕄)]
    exact BI.bigSep_congr fun c _ => BI.bigSep_univ_equiv Fin.revPerm _
  unfold minted rights
  rw [bigSep_sep', bigSep_sep', bigSep_sep', bigSep_sep', hb, around fun j c => (dutyTok ER (cell c (kRecv j)) 0 0 : sProp 𝕄)]

theorem seats_of (c : Dev nD) : (bigSep Finset.univ fun k : Kd => (atPos ER (cell c k) 0 ∅ 0 : sProp 𝕄)) = seats c := by
  unfold seats; rw [by_kind]

theorem one_start (K : Dev nD × Kd → ℕ) (c : Dev nD) :
    iprop(records m K ∗ seats c ∗ rights c) ⊢ G' m c := by
  unfold G'
  iintro H
  iexists K; iexact H

theorem regroup : (bigSep Finset.univ fun c : Dev nD => mine m c) ⊢ bigSep Finset.univ (G' m) := by
  have hI : (bigSep Finset.univ fun c : Dev nD => bigSep Finset.univ fun k => iprop(∃ κ : ℕ, (cellInv ER (sched m) κ (cell c k) : sProp 𝕄)))
      = bigSep Finset.univ fun ck : Dev nD × Kd => iprop(∃ κ : ℕ, (cellInv ER (sched m) κ (cell ck.1 ck.2) : sProp 𝕄)) :=
    (BI.bigSep_univ_prod (fun ck : Dev nD × Kd => iprop(∃ κ : ℕ, (cellInv ER (sched m) κ (cell ck.1 ck.2) : sProp 𝕄)))).symm
  have hR : (bigSep Finset.univ fun c : Dev nD => bigSep Finset.univ fun k => (reached ER (cell c k) 0 : sProp 𝕄))
      = bigSep Finset.univ fun ck : Dev nD × Kd => (reached ER (cell ck.1 ck.2) 0 : sProp 𝕄) :=
    (BI.bigSep_univ_prod (fun ck : Dev nD × Kd => (reached ER (cell ck.1 ck.2) 0 : sProp 𝕄))).symm
  unfold mine
  rw [bigSep_sep', bigSep_sep', bigSep_sep', hI, hR, BI.bigSep_congr fun c _ => seats_of (F := F) c]
  iintro ⟨HI, Hat, HR, Htok⟩
  ihave HK := (BI.bigSep_exists_pi Finset.univ (fun (ck : Dev nD × Kd) (κ : ℕ) => (cellInv ER (sched m) κ (cell ck.1 ck.2) : sProp 𝕄))) $$ HI
  icases HK with ⟨%K, HI⟩
  ihave Htk := (deal (F := F)) $$ Htok
  iapply (bigSep_with_persistent (R := records m K) fun c _ => one_start m K c)
  isplitl [HI HR]
  · unfold records; rw [bigSep_sep']
    isplitl [HI] <;> iassumption
  · rw [bigSep_sep']
    isplitl [Hat] <;> iassumption

/-- The global step at launch. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => opened m c).trans (bigSep_fupd _ _)).trans (BI.fupd_mono (regroup m))

/-! ## The rights to wait -/

/-- What every device owes at launch. -/
abbrev O₀ (c : Dev nD) : CellTallies nD τ sig Unit := owe c Finset.univ Finset.univ

theorem owed_at (d c : Dev nD) (k : Kd) :
    O₀ d (cell c k) () = (∑ j, if c = up d j ∧ k = kRecv j then N else 0) + ∑ j, if c = up d j ∧ k = kBar then 1 else 0 := by
  unfold O₀ owe
  rw [Pi.add_apply, Finsupp.add_apply, Finset.sum_apply, Finset.sum_apply, Finsupp.finset_sum_apply, Finsupp.finset_sum_apply]
  refine congrArg₂ _ (Finset.sum_congr rfl fun j _ => ?_) (Finset.sum_congr rfl fun j _ => ?_)
  all_goals
    rw [tallyAt_apply]
    refine if_congr ⟨fun h => cell_inj h.1, fun h => ⟨by rw [h.1, h.2], rfl⟩⟩ rfl rfl

/-- One device is the partner of each device at each distance. -/
theorem sum_partner (c : Dev nD) (j : Fin 7) (n : ℕ) : (∑ d : Dev nD, if c = up d j then n else 0) = n := by
  rw [← Equiv.sum_comp (upEquiv j).symm]
  have h (d : Dev nD) : (if c = up ((upEquiv j).symm d) j then n else 0) = if c = d then n else 0 := by
    rw [show up ((upEquiv j).symm d) j = d from (upEquiv j).apply_symm_apply d]
  rw [Finset.sum_congr rfl fun d _ => h d, Finset.sum_ite_eq, if_pos (Finset.mem_univ _)]

theorem launch_bar (c : Dev nD) :
    tallyOn (cell c kBar) (launchCredit (Pipeline.owing O₀) 0 (cell c kBar)) = (tallyAt (cell c kBar) () 7 : CellTallies nD τ sig Unit) := by
  unfold tallyAt; refine congrArg _ (Finsupp.ext fun u => ?_); cases u
  rw [Pipeline.launchCredit_owing, Finsupp.single_eq_same, Finset.sum_congr rfl fun d _ => owed_at d c kBar, Finset.sum_add_distrib]
  simp only [reduceCtorEq, and_false, if_false, Finset.sum_const_zero, and_true, zero_add]
  rw [Finset.sum_comm, Finset.sum_congr rfl fun j _ => sum_partner c j 1]
  rfl

theorem launch_recv (c : Dev nD) (j : Fin 7) :
    tallyOn (cell c (kRecv j)) (launchCredit (Pipeline.owing O₀) 0 (cell c (kRecv j)))
      = (tallyAt (cell c (kRecv j)) () N : CellTallies nD τ sig Unit) := by
  unfold tallyAt; refine congrArg _ (Finsupp.ext fun u => ?_); cases u
  rw [Pipeline.launchCredit_owing, Finsupp.single_eq_same, Finset.sum_congr rfl fun d _ => owed_at d c (kRecv j), Finset.sum_add_distrib]
  have h (d : Dev nD) : (∑ i, if c = up d i ∧ kRecv j = kRecv i then N else 0) = if c = up d j then N else 0 := by
    rw [Finset.sum_eq_single j (fun i _ hi => if_neg fun h => hi (Sum.inr.inj (Sum.inr.inj h.2)).symm) (fun h => absurd (Finset.mem_univ _) h)]
    exact if_congr (and_iff_left rfl) rfl rfl
  rw [Finset.sum_congr rfl fun d _ => h d, sum_partner]
  simp only [reduceCtorEq, and_false, if_false, Finset.sum_const_zero, add_zero]

theorem csem_inj : Function.Injective (csem : Kd → SemLoc sig) := fun k k' h =>
  Option.some.inj ((kindOf_csem k).symm.trans ((congrArg kindOf h).trans (kindOf_csem k')))

/-- The launch's credit covers the barrier's wait and the seven waits for copies. -/
theorem creds (c : Dev nD) : (Pipeline.launchCred O₀ c : sProp 𝕄) ⊢ credits c := by
  have h : (Pipeline.launchCred O₀ c : sProp 𝕄)
      ⊢ bigSep Finset.univ fun k : Kd => cred (tallyOn (cell c k) (launchCredit (Pipeline.owing O₀) 0 (cell c k))) := by
    unfold Pipeline.launchCred
    have hs := BI.bigSep_subset (Φ := fun sm : SemLoc sig =>
      (cred (tallyOn ((c : Thread nD τ), sm) (launchCredit (Pipeline.owing O₀) 0 ((c : Thread nD τ), sm))) : sProp 𝕄))
      (Finset.subset_univ (Finset.univ.map ⟨csem, csem_inj⟩))
    rw [BI.bigSep_map] at hs
    exact hs
  refine h.trans ?_
  rw [by_kind, launch_bar, BI.bigSep_congr fun j _ => congrArg cred (launch_recv c j)]
  unfold credits
  iintro ⟨HB, -, HV⟩
  isplitl [HB] <;> iassumption

/-! ## The launch theorem's conditions -/

theorem start_intro (c : Dev nD) :
    iprop(Pipeline.unscopedRestP Pipeline.Prefetch.none cfg0.spec c (fun b => m ((c : Thread nD τ).loc b)) ∗ levAts lab lvl
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufPts
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, own_eq, unscoped_eq]
  unfold Φ₁ zeros bufPts
  iintro ⟨Hr, HB, HS, HV⟩
  isplitl [HB]; · iexact HB
  isplitl [HS HV]
  · isplitl [HS] <;> iassumption
  iexists (comm m c); iexact Hr

theorem waits (c : Dev nD) : (levAts lab lvl : sProp 𝕄) ⊢ Pipeline.cellsWaits cfgs (dats m) () 0 c :=
  Pipeline.cellsWaits_intro cfgs (dats m) () 0 c fun w s t => by
    have hk : lvlOf (kindOf (.dma ((cfg0.win w).sem s))) ≤ 0 := by fin_cases w <;> fin_cases s <;> decide
    rcases t with ⟨_ | _, ht⟩
    · exact mayWait_below c _ Finset.univ Finset.univ 0 hk (fun _ => by decide) (by decide)
    · have h := mayWait_below (F := F) c (.dma ((cfg0.win w).sem s)) ∅ ∅ 0 hk (fun _ => by decide) (by decide)
      rw [owe_none] at h
      exact h

/-! ## The run -/

/-- What every device's arrays hold at the end, before it is computed. -/
def Ends : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 16000 in
theorem run_arrays : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := lab) (lv := lvl) (hL := lab_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- An element of a whole window's one block is the element of the array at the same index. -/
theorem block_emb (w : Fin 4) (y : ((cfg0.win w).rect t0_0).shape.Idx) (a) :
    (((cfg0.win w).rect t0_0).emb y a : ℕ) = (y a : ℕ) := by
  rw [Rect.emb_apply]
  have h0 : ((cfg0.win w).rect t0_0).off a = 0 := by revert a; fin_cases w <;> decide
  have h1 : ((cfg0.win w).rect t0_0).stride a = 1 := by revert a; fin_cases w <;> decide
  rw [h0, h1, zero_add, one_mul]

/-- What a device's windows deliver is its arguments, whole. -/
theorem xIn_eq (c : Dev nD) : xIn m c = m ((c : Thread nD τ).loc main_arg0) :=
  funext fun y => congrArg (m ((c : Thread nD τ).loc main_arg0)) (funext fun a => Fin.ext (block_emb 0 y a))
theorem wIn_eq (c : Dev nD) : wIn m c = m ((c : Thread nD τ).loc main_arg1) :=
  funext fun y => congrArg (m ((c : Thread nD τ).loc main_arg1)) (funext fun a => Fin.ext (block_emb 1 y a))
theorem lIn_eq (c : Dev nD) : lIn m c = m ((c : Thread nD τ).loc main_arg2) :=
  funext fun y => congrArg (m ((c : Thread nD τ).loc main_arg2)) (funext fun a => Fin.ext (block_emb 2 y a))

/-- The result's array ends holding what the body left in its staging buffer. -/
theorem out_eq (c : Dev nD) : (dats m 0 c).arrAt (3 : Fin 4) cfg0.N = result m c := by
  refine (dats m 0 c).arrAt_eq_of_cover (3 : Fin 4) (result m c) (fun t _ => ?_) (fun i => ⟨t0_0, rfl, ?_⟩)
  · rw [fin_N0 t]
    exact funext fun y => congrArg (result m c) (funext fun a => Fin.ext (block_emb 3 y a).symm)
  · exact Finset.mem_map.mpr ⟨i, Finset.mem_univ _, funext fun a => Fin.ext (block_emb 3 i a)⟩

/-- From any memory with all counters at zero, every weakly fair execution of the eight kernels terminates; at the
end each device's result is `result`, its arguments hold what they held and every counter is at zero. -/
theorem run_main :
    θ_run defs (onTc (τ := τ) (main (F := F))) (s₀ m ρ) (fun r =>
      (∀ c : Dev nD, r.2.mem ((c : Thread nD τ).loc main_v1) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run defs _ _).mono (fun r h => ⟨fun c =>
    ⟨(h.1 c (3 : Fin 4)).trans (out_eq m c),
     (h.1 c (0 : Fin 4)).trans ((dats m 0 c).arrAt_in (0 : Fin 4) rfl _),
     (h.1 c (1 : Fin 4)).trans ((dats m 0 c).arrAt_in (1 : Fin 4) rfl _),
     (h.1 c (2 : Fin 4)).trans ((dats m 0 c).arrAt_in (2 : Fin 4) rfl _)⟩, h.2⟩) (run_arrays m ρ)

end Cert.Exchange

end
-- ==== Proof.Frames.lean ====
/-
The frames of the kernel, from its one run: as printed and read at the reals.
-/
module

public import proofs.«01_k».proof.Proof.Launch
public import proofs.«01_k».proof.Proof.Gen.Kernel
public import proofs.«01_k».proof.Defs

@[expose] public section

noncomputable section

namespace Cert.Exchange

open Idealize.ShloMosaic Idealize.SL.Sem
open Cert.Kernel.Gen Cert.KernelIdeal.Gen

/-- The two printings of the kernel are the same text, so they name the same bodies, -/
theorem bodies_eq : Cert.Kernel.defs₀ (F := Bits) = Cert.KernelIdeal.defs₀ (F := Bits) := by
  funext q f
  rcases q with _ | q | q
  · funext d; rcases f with ⟨_ | n, h⟩ <;> rfl
  · rfl
  · rfl

/-- and the same table of regions. -/
theorem defs_eq : Cert.Kernel.defs (F := Bits) = Cert.KernelIdeal.defs (F := Bits) :=
  congrArg (Pipeline.defs (Cert.KernelIdeal.pcfgs (F := Bits))) bodies_eq

/-- The kernel as printed runs, keeps its arguments and ends with all counters at zero; -/
theorem frame_kernel : Cert.quiescent_Kernel := fun m ρ _ => by
  rw [defs_eq]
  exact (θ_run (Cert.KernelIdeal.defs (F := Bits)) _ _).mono (fun _ h => ⟨fun c => (h.1 c).2, h.2⟩) (run_main (F := Bits) m ρ)

/-- and so does it when read at the reals. -/
theorem frame_ideal : Cert.quiescent_KernelIdeal := fun m ρ _ =>
  (θ_run Cert.KernelIdeal.defs _ _).mono (fun _ h => ⟨fun c => (h.1 c).2, h.2⟩) (run_main (F := Ideal) m ρ)

end Cert.Exchange

end
-- ==== Proof.KernelValue.lean ====
/-
What the kernel's arithmetic computes over the reals, read at an index: the two rows of one device, and the loss that a
device forms from the rows in its communication buffer.
-/
module

public import proofs.«01_k».proof.Proof.Protocol
public import Idealize.ShloMosaic.Lib.ValueIdx
public import Idealize.ShloMosaic.Lib.Pipeline.Value
public import Idealize.ShloMosaic.Lib.StableHlo.Predicate
public import Idealize.ShloMosaic.PureOps.Ideal.Laws

@[expose] public section

noncomputable section

namespace Cert.Exchange

open Idealize.ShloMosaic Idealize.ShloMosaic.ValueIdx
open Cert.KernelIdeal Cert.KernelIdeal.Gen

/-- The logit of column `k` of the weights for row `t` of the activations. -/
def logit (w : FVec Ideal S512x4096 .bf16) (x : FVec Ideal S256x512 .bf16) (k : Fin 4096) (t : Fin 256) : EReal :=
  ∑ j : Fin 512, w (ix2 j k) * x (ix2 t j)

/-- The matrix product of the kernel holds the logit of column `k` and row `t` at `(k, t)`. -/
theorem product_apply (w : FVec Ideal S512x4096 .bf16) (x : FVec Ideal S256x512 .bf16) (k : Fin 4096) (t : Fin 256) :
    matmul dot_S512x4096_S256x512_S4096x256_0_1_1_0_n_n none w x (constant S4096x256 .f32 0x00000000#32) (ix2 k t) = logit w x k t := by
  simp only [matmul]
  rw [Ideal.matmul_constant_zero_apply, ← Equiv.sum_comp (contrEquiv1 dot_S512x4096_S256x512_S4096x256_0_1_1_0_n_n 512 rfl rfl).symm]
  refine Finset.sum_congr rfl fun j _ => ?_
  have hj := contrEquiv1_symm_val dot_S512x4096_S256x512_S4096x256_0_1_1_0_n_n 512 rfl rfl j
  congr 2
  · refine Shape.idx_ext₂ ?_ ?_
    · exact (DotDims.lhsIdx_val_of_single _ rfl _ _).trans hj
    · rfl
  · refine Shape.idx_ext₂ ?_ ?_
    · rfl
    · exact (DotDims.rhsIdx_val_of_single _ rfl _ _).trans hj

/-- The sum of a 4096 × 256 array down its column `t`. -/
theorem column_sum (v : FVec Ideal S4096x256 .f32) (t : Fin 256) :
    multiReduction .add [0] S256 v 0x00000000#32 reduces_S4096x256_S256 (.inl rfl) rfl (ix1 t) = ∑ k : Fin 4096, v (ix2 k t) := by
  refine (Ideal.multiReduction_add_single _ _ _ _ _ _).trans ?_
  exact Finset.sum_congr rfl fun k _ => congrArg v (Shape.idx_ext₂ rfl rfl)

/-- A vector of 256 entries seen as one row holds entry `t` at column `t`. -/
theorem as_row {α : Type} (v : S256.Idx → α) (t : Fin 256) : shapeCast S1x256 v shapeCasts_S256_S1x256 (ix2 0 t) = v (ix1 t) :=
  shapeCast_apply v _ _ _ (by rw [Shape.rowMajor_val_one, Shape.rowMajor_val_two]; show t.val = 0 * 256 + t.val; omega)

/-- The first of the two rows at token `t`: the sum of the exponentials of the block's logits. -/
theorem pay3_zero (a : BitVec 32) (x : FVec Ideal S256x512 .bf16) (w : FVec Ideal S512x4096 .bf16) (l : Vec Ideal S256 .i32) (t : Fin 256) :
    k0_pay3 a x w l (ix3 0 0 t) = ∑ k : Fin 4096, Ideal.exp (logit w x k t) := by
  unfold k0_pay3
  dsimp only
  refine (shapeCast_apply _ _ _ (ix2 (0 : Fin 2) t) ?_).trans ?_
  · rw [Shape.rowMajor_val_two, Shape.rowMajor_val_three]; rfl
  refine (concatenate_pair_apply_left (t := S2x256) (s₁ := S1x256) (s₂ := S1x256) 0 _ _ _ _ rfl (ix2 (0 : Fin 1) t) ?_).trans ?_
  · intro b; match b with | ⟨0, _⟩ => rfl | ⟨1, _⟩ => rfl
  rw [as_row, column_sum]
  refine Finset.sum_congr rfl fun k _ => ?_
  rw [shapeCast_self]
  exact congrArg Ideal.exp (product_apply w x k t)

/-- The second row at token `t`: the sum of the block's logits at the columns whose place in the vocabulary, counted from
`4096 · a`, is the token's label. -/
theorem pay3_one (a : BitVec 32) (x : FVec Ideal S256x512 .bf16) (w : FVec Ideal S512x4096 .bf16) (l : Vec Ideal S256 .i32) (t : Fin 256) :
    k0_pay3 a x w l (ix3 0 1 t)
      = ∑ k : Fin 4096, if BitVec.ofNat 32 k.val + a * 4096#32 = (l (ix1 t) : BitVec 32) then logit w x k t else 0 := by
  unfold k0_pay3
  dsimp only
  refine (shapeCast_apply _ _ _ (ix2 (1 : Fin 2) t) ?_).trans ?_
  · rw [Shape.rowMajor_val_two, Shape.rowMajor_val_three]; rfl
  refine (concatenate_pair_apply_right (t := S2x256) (s₁ := S1x256) (s₂ := S1x256) 0 _ _ _ _ rfl rfl (ix2 (0 : Fin 1) t) ?_ rfl).trans ?_
  · intro b hb; match b with | ⟨0, _⟩ => exact absurd rfl hb | ⟨1, _⟩ => rfl
  rw [as_row, column_sum]
  refine Finset.sum_congr rfl fun k _ => ?_
  rw [select_apply, broadcast_apply, shapeCast_self l, shapeCast_self w, product_apply]
  have hl : broadcastTo S4096x256 (shapeCast S1x256 l shapeCasts_S256_S1x256)
      broadcasts_S1x256_S4096x256 (ix2 k t) = l (ix1 t) := by
    refine (broadcastTo_apply _ _ _ (ix2 0 t) ?_).trans ?_
    · intro b; match b with | ⟨0, _⟩ => rfl | ⟨1, _⟩ => rfl
    · exact as_row l t
  have hi : iota .tc S4096x256 32 [0] iota_S4096x256_d0_w32 (ix2 k t) = BitVec.ofNat 32 k.val := iota_single_apply _ _ _ _ _ _
  have hc : cmpi .eq (addi (iota .tc S4096x256 32 [0] iota_S4096x256_d0_w32) (broadcast S4096x256 (Scalar.muli a 4096#32)))
      (broadcastTo S4096x256 (shapeCast S1x256 l shapeCasts_S256_S1x256)
        broadcasts_S1x256_S4096x256) (ix2 k t) = IntOp.cmpi .eq (BitVec.ofNat 32 k.val + a * 4096#32) (l (ix1 t)) :=
    congrArg₂ (IntOp.cmpi .eq) (congrArg (· + a * 4096#32) hi) hl
  rw [hc]
  by_cases h : BitVec.ofNat 32 k.val + a * 4096#32 = (l (ix1 t) : BitVec 32)
  · rw [if_pos h, StableHlo.Predicate.cmpi_eq_iff.mpr h, select_one]
  · rw [if_neg h, eq_zero_of_ne_one (fun e => h (StableHlo.Predicate.cmpi_eq_iff.mp e)), select_zero]
    exact Ideal.ofBits_zero_f32

/-- Row `r` of the communication buffer, summed over the eight slots at token `t`. -/
theorem slot_sum (v : Vec Ideal S8x2x256 .f32) (r : Fin 2) (h : S8x2x256.Slices ![0, r.val, 0] S8x1x256) (t : Fin 256) :
    multiReduction .add [0] S1x256 (extractStridedSlice S8x1x256 ![0, r.val, 0] v h : FVec Ideal S8x1x256 .f32) 0x00000000#32
        reduces_S8x1x256_S1x256 (.inl rfl) rfl (ix2 0 t)
      = ∑ i : Fin 8, (v (ix3 i r t) : EReal) := by
  refine (Ideal.multiReduction_add_single _ _ _ _ _ _).trans ?_
  refine Finset.sum_congr rfl fun i _ => extractStridedSlice_apply _ _ _ _ _ fun a => ?_
  match a with
  | ⟨0, _⟩ => exact (Nat.zero_add _).symm
  | ⟨1, _⟩ => rfl
  | ⟨2, _⟩ => exact (Nat.zero_add _).symm

/-- The loss of token `t` from a communication buffer: the logarithm of the first row's sum over the slots, less the
second row's. -/
theorem pay1_apply (v : Vec Ideal S8x2x256 .f32) (t : Fin 256) :
    k0_pay1 v (ix1 t) = Ideal.log (∑ i : Fin 8, (v (ix3 i 0 t) : EReal)) - ∑ i : Fin 8, (v (ix3 i 1 t) : EReal) := by
  unfold k0_pay1
  dsimp only
  refine (shapeCast_apply _ _ _ (ix2 0 t) ?_).trans ?_
  · rw [Shape.rowMajor_val_one, Shape.rowMajor_val_two]; show 0 * 256 + t.val = t.val; omega
  rw [subf_apply]
  exact congrArg₂ (fun a b : EReal => Ideal.log a - b) (slot_sum v 0 _ t) (slot_sum v 1 _ t)

/-- The kernel's axis index of device `c` is `c`. -/
theorem axisIdx_eq (c : Dev nD) : axisIdx c = BitVec.ofNat 32 c.val := by revert c; decide

/-- Over the eight slots every device occurs once, so a sum over them is a sum over the devices. -/
theorem sum_frm {α : Type*} [AddCommMonoid α] (c : Dev nD) (g : Fin 8 → α) : ∑ i : Fin 8, g (frm c i) = ∑ d : Fin 8, g d := by
  have inj : Function.Injective (frm c) := by revert c; decide
  exact Equiv.sum_comp (Equiv.ofBijective (frm c) ((Finite.injective_iff_bijective (f := frm c)).mp inj)) g

variable (m : (ℓ : Loc nD τ sig) → Buf (Elt Ideal) ℓ)

/-- What the kernel returns for token `t`, on every device: the logarithm of the sum, over all devices and all columns of
their blocks, of the exponentials of the logits, less the sum of the logits at the columns that the label names. -/
theorem result_apply (c : Dev nD) (t : Fin 256) :
    result m c (ix1 t)
      = Ideal.log (∑ d : Fin 8, ∑ k : Fin 4096, Ideal.exp (logit (wIn m d) (xIn m d) k t))
        - ∑ d : Fin 8, ∑ k : Fin 4096,
            if BitVec.ofNat 32 k.val + BitVec.ofNat 32 d.val * 4096#32 = (lIn m d (ix1 t) : BitVec 32)
              then logit (wIn m d) (xIn m d) k t else 0 := by
  have row_eq : ∀ (i : Fin 8) (r : Fin 2), row (ix3 i r t) = ix3 0 r t := fun i r => by
    funext a; match a with | ⟨0, _⟩ => rfl | ⟨1, _⟩ => rfl | ⟨2, _⟩ => rfl
  have cell : ∀ (i : Fin 8) (r : Fin 2), comm m c (ix3 i r t) = part m (frm c i) (ix3 0 r t) := fun i r =>
    congrArg (part m (frm c i)) (row_eq i r)
  have x_self : ∀ d, k0_pay2 (xIn m d) = xIn m d := fun d => shapeCast_self _ _
  unfold result
  rw [pay1_apply]
  simp only [cell]
  rw [sum_frm c fun d => (part m d (ix3 0 0 t) : EReal), sum_frm c fun d => (part m d (ix3 0 1 t) : EReal)]
  simp only [part, x_self, pay3_zero, pay3_one, axisIdx_eq]

end Cert.Exchange

end
-- ==== Proof.LogSum.lean ====
/-
Facts about extended reals that the loss needs: a row's greatest entry, the shift of a log-sum-exp, a sum cut into
blocks, and a sum with one nonzero term. Nothing here mentions a program.
-/
module

public import Idealize.ShloMosaic.PureOps.Ideal.Laws

@[expose] public section

noncomputable section

namespace Cert.LogSum

open Idealize.ShloMosaic

/-- A finite sum of reals, added as extended reals, is the real sum. -/
theorem sum_real {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many extended reals, at least one, taken from −∞ upwards, is one of them. -/
theorem fold_max_mem {ι : Type*} {s : Finset ι} (hs : s.Nonempty) (f : ι → EReal) : ∃ i ∈ s, s.fold max ⊥ f = f i := by
  classical
  induction hs using Finset.Nonempty.cons_induction with
  | singleton a => exact ⟨a, Finset.mem_singleton_self a, by simp⟩
  | cons a s ha _ ih =>
    obtain ⟨i, hi, e⟩ := ih
    rw [Finset.fold_cons, e]
    rcases max_choice (f a) (f i) with h | h
    · exact ⟨a, Finset.mem_cons_self a s, h⟩
    · exact ⟨i, Finset.mem_cons_of_mem hi, h⟩

/-- The sum of the exponentials of finitely many reals, at least one, is a positive real. -/
theorem sum_exp {ι : Type*} [Fintype ι] [Nonempty ι] (f : ι → ℝ) :
    ∑ i, Ideal.exp (f i : EReal) = ((∑ i, Real.exp (f i) : ℝ) : EReal) ∧ 0 < ∑ i, Real.exp (f i) :=
  ⟨sum_real _ _, Finset.sum_pos (fun i _ => Real.exp_pos _) Finset.univ_nonempty⟩

/-- The logarithm of that sum does not change when every entry is lowered by one real `M` before the exponential and `M`
is added again after the logarithm. -/
theorem log_sum_exp_shift {ι : Type*} [Fintype ι] [Nonempty ι] (f : ι → ℝ) (M : ℝ) :
    (M : EReal) + Ideal.log (∑ i, Ideal.exp ((f i : EReal) - (M : EReal))) = Ideal.log (∑ i, Ideal.exp (f i : EReal)) := by
  have hM : ∀ i, (f i : EReal) - (M : EReal) = ((f i - M : ℝ) : EReal) := fun i => (EReal.coe_sub _ _).symm
  simp only [hM]
  obtain ⟨e₁, p₁⟩ := sum_exp f
  obtain ⟨e₂, p₂⟩ := sum_exp fun i => f i - M
  rw [e₁, e₂, Ideal.log_coe, Ideal.log_coe, if_neg (not_le.mpr p₁), if_neg (not_le.mpr p₂), ← EReal.coe_add]
  congr 1
  have h : ∑ i, Real.exp (f i) = Real.exp M * ∑ i, Real.exp (f i - M) := by
    rw [Finset.mul_sum]
    exact Finset.sum_congr rfl fun i _ => by rw [← Real.exp_add]; congr 1; ring
  rw [h, Real.log_mul (Real.exp_pos M).ne' p₂.ne', Real.log_exp]

/-- A sum over `m` blocks of `n` entries is the sum over the `m · n` entries, entry `k` of block `c` being `n · c + k`. -/
theorem sum_blocks {α : Type*} [AddCommMonoid α] {m n N : ℕ} (h : N = m * n) (g : Fin N → α)
    (lt : ∀ (c : Fin m) (k : Fin n), n * c.val + k.val < N) : ∑ c : Fin m, ∑ k : Fin n, g ⟨n * c.val + k.val, lt c k⟩ = ∑ v, g v := by
  subst h
  rw [← Fintype.sum_prod_type' (fun (c : Fin m) (k : Fin n) => g ⟨n * c.val + k.val, lt c k⟩), ← Equiv.sum_comp finProdFinEquiv g]
  exact Finset.sum_congr rfl fun p _ => congrArg g (Fin.ext (by simp [finProdFinEquiv, Nat.add_comm]))

end Cert.LogSum

end
-- ==== Proof.RefValue.lean ====
/-
What the reference computes over the reals, read at a token: the log-sum-exp of the token's logits over the whole
vocabulary, less the logit at its label.
-/
module

public import proofs.«01_k».proof.Proof.LogSum
public import proofs.«01_k».proof.Proof.Gen.ReferenceIdeal.Run
public import proofs.«01_k».proof.Proof.Gen.ReferenceIdeal.Read
public import Idealize.ShloMosaic.Lib.ValueIdx
public import Idealize.ShloMosaic.Lib.Pipeline.Value
public import Idealize.ShloMosaic.Lib.StableHlo.Predicate

@[expose] public section

noncomputable section

namespace Cert.Loss

open Idealize.ShloMosaic Idealize.ShloMosaic.ValueIdx
open Cert.ReferenceIdeal Cert.ReferenceIdeal.Gen Cert.ReferenceIdeal.Read

variable (x : FVec Ideal S256x512 .bf16) (w : FVec Ideal S512x32768 .bf16) (l : IVec S256 32)

/-- The logit of token `t` at entry `v` of the vocabulary. -/
def logit (t : Fin 256) (v : Fin 32768) : EReal := ∑ j : Fin 512, x (ix2 t j) * w (ix2 j v)

/-- The reference's matrix product holds the logits. -/
theorem logits_apply (t : Fin 256) (v : Fin 32768) : val_main_v2 (F := Ideal) x w (ix2 t v) = logit x w t v := by
  rw [val_main_v2_apply]
  refine Finset.sum_congr rfl fun j _ => ?_
  exact congrArg₂ (fun a b : EReal => a * b) (congrArg x (Shape.idx_ext₂ rfl rfl)) (congrArg w (Shape.idx_ext₂ rfl rfl))

/-- The token's greatest logit, as the reference takes it, is one of its logits. -/
theorem max_mem (t : Fin 256) : ∃ v, val_main_v3 (F := Ideal) x w (ix1 t) = logit x w t v := by
  obtain ⟨v, -, e⟩ := LogSum.fold_max_mem (s := (Finset.univ : Finset (Fin 32768))) ⟨0, Finset.mem_univ _⟩ (logit x w t)
  refine ⟨v, ?_⟩
  rw [← e]
  unfold val_main_v3
  rw [Host.reduce_eq_fold_single FloatOps.maximumf _ _ reducesTo_S256x32768_S256_d1 (by decide)]
  have h0 : val_main_cst (F := Ideal) (Shape.Idx.first h_S_) = (⊥ : EReal) := by
    rw [val_main_cst_apply, Ideal.ofBits_def]; simp [Ideal.ofBits, Ideal.ieee]
  rw [h0]
  refine congrArg (Finset.fold max (⊥ : EReal) · Finset.univ) (funext fun k => ?_)
  refine Eq.trans ?_ (logits_apply x w t k)
  exact congrArg (val_main_v2 (F := Ideal) x w) (Shape.idx_ext₂ rfl rfl)

/-- The sum of the exponentials of the token's logits, each lowered by the greatest. -/
theorem sum_apply (t : Fin 256) :
    val_main_v8 (F := Ideal) x w (ix1 t) = ∑ v, Ideal.exp (logit x w t v - val_main_v3 (F := Ideal) x w (ix1 t)) := by
  rw [val_main_v8_apply]
  have h0 : val_main_cst_0 (F := Ideal) (Shape.Idx.first h_S_) = (0 : EReal) := Ideal.ofBits_zero_f32
  rw [h0, zero_add]
  refine Finset.sum_congr rfl fun v _ => ?_
  rw [val_main_v7_apply, val_main_v6_apply, val_main_v5_apply, val_main_v4_apply]
  have e₁ : idx_main_v8 (ix1 t) v = ix2 t v := Shape.idx_ext₂ rfl rfl
  have e₂ : idx_main_v4 (idx_main_v5 (ix2 t v)) = ix1 t := by funext a; match a with | ⟨0, _⟩ => rfl
  rw [e₁, e₂, logits_apply]
  rfl

/-- The reference's log-sum-exp of the token: the greatest logit plus the logarithm of that sum. -/
theorem lse_apply (t : Fin 256) :
    val_main_v12 (F := Ideal) x w (ix1 t)
      = val_main_v3 (F := Ideal) x w (ix1 t) + Ideal.log (val_main_v8 (F := Ideal) x w (ix1 t)) := by
  rw [val_main_v12_apply, val_main_v11_apply, val_main_v10_apply, val_main_v9_apply, val_main_v4_apply]
  have e₁ : idx_main_v9 (idx_main_v12 (ix1 t)) = ix1 t := by
    funext a; match a with | ⟨0, _⟩ => exact Fin.ext (Nat.div_one _)
  have e₂ : idx_main_v4 (idx_main_v12 (ix1 t)) = ix1 t := by
    funext a; match a with | ⟨0, _⟩ => exact Fin.ext (Nat.div_one _)
  rw [e₁, e₂]
  generalize val_main_v3 (F := Ideal) x w (ix1 t) = M
  generalize val_main_v8 (F := Ideal) x w (ix1 t) = z
  rfl

/-- A word below 2³¹ is not negative, so the step that wraps negative places leaves it as it is. -/
theorem unwrapped (a b : BitVec 32) (ha : a.toNat < 2 ^ 31) : Scalar.select (IntOp.cmpi .slt a 0#32) b a = a := by
  have h : ¬ IntOp.cmpi .slt a 0#32 = 1#1 := fun e => by
    have := (StableHlo.Predicate.slt_iff_toNat ha (by decide)).mp e
    exact absurd this (Nat.not_lt_zero _)
  rw [eq_zero_of_ne_one h, select_zero]

/-- The first of the token's two gather places is its own row. -/
theorem place_row (t : Fin 256) : val_main_v26 (F := Ideal) l (ix2 t 0) = BitVec.ofNat 32 t.val := by
  unfold val_main_v26
  refine (concatenate_pair_apply_left (t := S256x2) (s₁ := S256x1) (s₂ := S256x1) 1 _ _ _ _ rfl (ix2 t (0 : Fin 1)) ?_).trans ?_
  · intro b; match b with | ⟨0, _⟩ => rfl | ⟨1, _⟩ => rfl
  rw [val_main_v24_apply, val_main_v18_apply, val_main_v15_apply, val_main_v14_apply, val_main_c_apply, val_main_v13_apply]
  refine unwrapped _ _ ?_
  have := t.isLt
  show (BitVec.ofNat 32 t.val).toNat < 2 ^ 31
  rw [BitVec.toNat_ofNat]; omega

/-- The second is its label, where that is a place of the vocabulary. -/
theorem place_label (t : Fin 256) (h : (l (ix1 t)).toNat < 32768) : val_main_v26 (F := Ideal) l (ix2 t 1) = l (ix1 t) := by
  unfold val_main_v26
  refine (concatenate_pair_apply_right (t := S256x2) (s₁ := S256x1) (s₂ := S256x1) 1 _ _ _ _ rfl rfl (ix2 t (0 : Fin 1)) ?_ rfl).trans ?_
  · intro b hb; match b with | ⟨0, _⟩ => rfl | ⟨1, _⟩ => exact absurd rfl hb
  rw [val_main_v25_apply, val_main_v23_apply, val_main_v20_apply, val_main_v19_apply, val_main_c_2_apply]
  have e : idx_main_v25 (ix2 t (0 : Fin 1)) = ix1 t := by funext a; match a with | ⟨0, _⟩ => rfl
  rw [e]
  exact unwrapped _ _ (by omega)

/-- A word below 2³¹, read as a signed number and clamped below a bound it keeps, is itself. -/
theorem clamped (a : BitVec 32) (n : ℕ) (hn : n < 2 ^ 31) (h : a.toNat ≤ n) : min a.toInt.toNat n = a.toNat := by
  rw [StableHlo.Predicate.toInt_eq_toNat_of_lt (by omega)]
  simpa using h

/-- The gather picks the logit of the token at its label. -/
theorem picked (t : Fin 256) (h : (l (ix1 t)).toNat < 32768) :
    val_main_v27 (F := Ideal) x w l (ix1 t) = logit x w t ⟨(l (ix1 t)).toNat, h⟩ := by
  rw [← logits_apply]
  unfold val_main_v27 Host.gather
  have place : ∀ (b : Fin 2) (hb : b.val < 2),
      gather_S256x32768_S256x2_S256_n_01_n_n_01_1_11.siIdx (ix1 t) ⟨b.val, hb⟩ = ix2 t b := fun b hb => by
    funext a; refine Fin.ext ?_; match a with | ⟨0, _⟩ => rfl | ⟨1, _⟩ => rfl
  refine congrArg (val_main_v2 (F := Ideal) x w) (Shape.idx_ext₂ ?_ ?_)
  · show gather_S256x32768_S256x2_S256_n_01_n_n_01_1_11.start (ix1 t) _ 0
      + gather_S256x32768_S256x2_S256_n_01_n_n_01_1_11.batchCoord (ix1 t) 0
      + gather_S256x32768_S256x2_S256_n_01_n_n_01_1_11.offCoord (ix1 t) 0 = t.val
    rw [GatherDims.batchCoord_eq_zero _ _ _ List.not_mem_nil,
      GatherDims.offCoord_eq_zero _ _ _ (fun h => ((GatherDims.mem_sKept _ _).mp h).1 (by decide))]
    unfold GatherDims.start
    rw [dif_pos (show (0 : Fin 2) ∈ gather_S256x32768_S256x2_S256_n_01_n_n_01_1_11.startIndexMap by decide)]
    refine (congrArg (fun i => min (val_main_v26 (F := Ideal) l i).toInt.toNat 255) (place 0 (by decide))).trans ?_
    have ht := t.isLt
    have e : (BitVec.ofNat 32 t.val).toNat = t.val := by rw [BitVec.toNat_ofNat]; omega
    rw [place_row, clamped _ _ (by decide) (by omega), e]
  · show gather_S256x32768_S256x2_S256_n_01_n_n_01_1_11.start (ix1 t) _ 1
      + gather_S256x32768_S256x2_S256_n_01_n_n_01_1_11.batchCoord (ix1 t) 1
      + gather_S256x32768_S256x2_S256_n_01_n_n_01_1_11.offCoord (ix1 t) 1 = (l (ix1 t)).toNat
    rw [GatherDims.batchCoord_eq_zero _ _ _ List.not_mem_nil,
      GatherDims.offCoord_eq_zero _ _ _ (fun h => ((GatherDims.mem_sKept _ _).mp h).1 (by decide))]
    unfold GatherDims.start
    rw [dif_pos (show (1 : Fin 2) ∈ gather_S256x32768_S256x2_S256_n_01_n_n_01_1_11.startIndexMap by decide)]
    refine (congrArg (fun i => min (val_main_v26 (F := Ideal) l i).toInt.toNat 32767) (place 1 (by decide))).trans ?_
    rw [place_label l t h, clamped _ _ (by decide) (by omega)]

/-- The reference's loss of token `t`, where the logits are real and the label is a place of the vocabulary: the logarithm
of the sum of the exponentials of the logits, less the logit at the label. The shift by the greatest logit is gone. -/
theorem loss_apply (t : Fin 256) (f : Fin 32768 → ℝ) (hf : ∀ v, logit x w t v = (f v : EReal)) (h : (l (ix1 t)).toNat < 32768) :
    val_main_v28 (F := Ideal) x w l (ix1 t)
      = Ideal.log (∑ v, Ideal.exp (logit x w t v)) - logit x w t ⟨(l (ix1 t)).toNat, h⟩ := by
  rw [val_main_v28_apply, picked x w l t h, lse_apply, sum_apply]
  obtain ⟨k, hk⟩ := max_mem x w t
  rw [hk]
  simp only [hf]
  rw [← LogSum.log_sum_exp_shift f (f k)]
  rfl

end Cert.Loss

end
-- ==== Proof.Equation.lean ====
/-
The equation: over the reals, what the kernel returns on a device is the reference's loss, when the weights are cut along
the vocabulary into the eight devices' blocks.
-/
module

public import proofs.«01_k».proof.Proof.KernelValue
public import proofs.«01_k».proof.Proof.RefValue
public import Idealize.ShloMosaic.Lib.Layout

@[expose] public section

noncomputable section

namespace Cert.Loss

open Idealize.ShloMosaic Idealize.ShloMosaic.ValueIdx

/-- A finite sum of products of real numbers is a real number. -/
theorem logit_real (x : FVec Ideal Cert.ReferenceIdeal.S256x512 .bf16) (w : FVec Ideal Cert.ReferenceIdeal.S512x32768 .bf16)
    (hx : ∀ i, ∃ r : ℝ, (x i : EReal) = (r : EReal)) (hw : ∀ i, ∃ r : ℝ, (w i : EReal) = (r : EReal)) (t : Fin 256) (v : Fin 32768) :
    ∃ r : ℝ, logit x w t v = (r : EReal) := by
  choose a ha using hx
  choose b hb using hw
  refine ⟨∑ j : Fin 512, a (ix2 t j) * b (ix2 j v), ?_⟩
  unfold logit
  rw [← LogSum.sum_real]
  exact Finset.sum_congr rfl fun j _ => by rw [ha, hb, ← EReal.coe_mul]

/-- Where column `k` of device `d`'s block lies in the vocabulary. -/
theorem place_lt (d : Fin 8) (k : Fin 4096) : 4096 * d.val + k.val < 32768 := by have := d.isLt; have := k.isLt; omega

/-- Column `k` of device `d`'s block of the weights is column `4096 d + k` of the whole. -/
theorem block_column (w : FVec Ideal Cert.ReferenceIdeal.S512x32768 .bf16) (d : Fin 8) (j : Fin 512) (k : Fin 4096) :
    Layout.block ⟨2, ![512, 4096]⟩ ⟨2, ![512, 32768]⟩ 1 8 d w (by decide) (ix2 j k) = w (ix2 j ⟨4096 * d.val + k.val, place_lt d k⟩) := by
  rw [Layout.block_apply]
  refine congrArg w (Shape.idx_ext₂ ?_ ?_)
  · rw [Layout.Tiles.idx_val]; rfl
  · rw [Layout.Tiles.idx_val]; show d.val * 4096 + k.val = 4096 * d.val + k.val; omega

/-- So a device's logits are the reference's at its part of the vocabulary. -/
theorem block_logit (x : FVec Ideal Cert.ReferenceIdeal.S256x512 .bf16) (w : FVec Ideal Cert.ReferenceIdeal.S512x32768 .bf16) (d : Fin 8)
    (k : Fin 4096) (t : Fin 256) :
    Exchange.logit (Layout.block ⟨2, ![512, 4096]⟩ ⟨2, ![512, 32768]⟩ 1 8 d w (by decide)) x k t
      = logit x w t ⟨4096 * d.val + k.val, place_lt d k⟩ := by
  unfold Exchange.logit logit
  refine Finset.sum_congr rfl fun j _ => ?_
  rw [block_column]
  exact mul_comm (G := EReal) _ _

/-- The word the kernel compares a label with at column `k` of device `d` is that column's place in the vocabulary. -/
theorem place_word (d : Fin 8) (k : Fin 4096) :
    BitVec.ofNat 32 k.val + BitVec.ofNat 32 d.val * 4096#32 = BitVec.ofNat 32 (4096 * d.val + k.val) := by
  apply BitVec.eq_of_toNat_eq
  have := d.isLt; have := k.isLt
  simp only [BitVec.toNat_add, BitVec.toNat_mul, BitVec.toNat_ofNat]
  omega

/-- Of the vocabulary's places exactly one, the label itself, has the label's word: a sum that keeps the entries there
keeps that one entry. -/
theorem one_place (a : BitVec 32) (h : a.toNat < 32768) (g : Fin 32768 → EReal) :
    (∑ v : Fin 32768, if BitVec.ofNat 32 v.val = a then g v else 0) = g ⟨a.toNat, h⟩ := by
  have e : ∀ v : Fin 32768, BitVec.ofNat 32 v.val = a ↔ v = ⟨a.toNat, h⟩ := fun v => by
    have := v.isLt
    constructor
    · intro q; refine Fin.ext ?_; show v.val = a.toNat; rw [← q, BitVec.toNat_ofNat]; omega
    · intro q; rw [q]; exact BitVec.ofNat_toNat _ _ |>.trans (BitVec.setWidth_eq a)
  simp only [e, Finset.sum_ite_eq', Finset.mem_univ, if_true]

/-- The kernel's result, on any device whose peers hold the blocks of `w` and all the same activations and labels, is the
reference's loss. -/
theorem result_eq (m : (ℓ : Loc Cert.KernelIdeal.nD Cert.KernelIdeal.τ Cert.KernelIdeal.sig) → Buf (Elt Ideal) ℓ)
    (x : FVec Ideal Cert.ReferenceIdeal.S256x512 .bf16) (w : FVec Ideal Cert.ReferenceIdeal.S512x32768 .bf16)
    (l : IVec Cert.ReferenceIdeal.S256 32) (ex : ∀ d, Exchange.xIn m d = x)
    (ew : ∀ d : Fin 8, Exchange.wIn m d = Layout.block ⟨2, ![512, 4096]⟩ ⟨2, ![512, 32768]⟩ 1 8 d w (by decide))
    (el : ∀ d, Exchange.lIn m d = l) (hx : ∀ i, ∃ r : ℝ, (x i : EReal) = (r : EReal))
    (hw : ∀ i, ∃ r : ℝ, (w i : EReal) = (r : EReal)) (hl : ∀ i, (l i).toNat < 32768) (c : Dev Cert.KernelIdeal.nD) :
    Exchange.result m c = Cert.ReferenceIdeal.Read.val_main_v28 (F := Ideal) x w l := by
  funext i
  obtain ⟨t, rfl⟩ : ∃ t : Fin 256, i = ix1 t := ⟨i 0, eq_ix1 i⟩
  choose f hf using logit_real x w hx hw t
  refine (Exchange.result_apply m c t).trans (Eq.trans ?_ (loss_apply x w l t f hf (hl _)).symm)
  simp only [ex, ew, el, block_logit, place_word]
  rw [LogSum.sum_blocks (by norm_num) (fun v : Fin 32768 => Ideal.exp (logit x w t v)) place_lt,
    LogSum.sum_blocks (by norm_num) (fun v : Fin 32768 => if BitVec.ofNat 32 v.val = l (ix1 t) then logit x w t v else 0) place_lt,
    one_place _ (hl _)]

end Cert.Loss

end
-- ==== Proof.Inputs.lean ====
/-
What the precondition says of a device's blocks: every activation and every weight is a real number, and every label is a
place of the vocabulary.
-/
module

public import proofs.«01_k».proof.Proof.Gen.Pre_inputs_ok_KernelIdeal
public import Idealize.ShloMosaic.Lib.ReduceAll
public import Idealize.ShloMosaic.Lib.ValueIdx
public import Idealize.ShloMosaic.Lib.StableHlo.Predicate
public import Idealize.ShloMosaic.Lib.WordArith
public import Idealize.ShloMosaic.PureOps.Ideal.Laws

@[expose] public section

noncomputable section

namespace Cert.Inputs

open Idealize.ShloMosaic Idealize.ShloMosaic.ValueIdx
open Cert.Pre_inputs_ok_KernelIdeal Cert.Pre_inputs_ok_KernelIdeal.Gen

/-- An extended real whose absolute value is below +∞ is a real number. -/
theorem real_of_abs_lt (a : Ideal .f32) (h : FloatOps.cmpf .olt (FloatOps.hostAbsf a) (FloatOps.ofBits .f32 0x7F800000#32 : Ideal .f32) = 1#1) :
    ∃ r : ℝ, a = (r : EReal) := by
  have ht : (FloatOps.ofBits .f32 0x7F800000#32 : Ideal .f32) = (⊤ : EReal) := by
    rw [Ideal.ofBits_def]; simp [Ideal.ofBits, Ideal.ieee]
  rw [ht, Ideal.hostAbsf_def, Ideal.absf_def, Ideal.cmpf_def] at h
  have hlt : max (a : EReal) (-a) < ⊤ := by
    have := (StableHlo.Predicate.ofBool_eq_one_iff _).mp h
    simpa using this
  refine ⟨EReal.toReal a, (EReal.coe_toReal ?_ ?_).symm⟩
  · rintro rfl; simp at hlt
  · rintro rfl; simp at hlt

instance : Subsingleton S_.Idx := ⟨fun a b => funext fun k => k.elim0⟩

variable (x : FVec Ideal S256x512 .bf16) (w : FVec Ideal S512x4096 .bf16) (l : IVec S256 32)

/-- The precondition, taken apart. -/
theorem taken_apart (h : Cert.Pre_inputs_ok_KernelIdeal.fn (F := Ideal) x w l = fun _ => 1#1) :
    (∀ i, ∃ r : ℝ, (x i : EReal) = (r : EReal)) ∧ (∀ i, ∃ r : ℝ, (w i : EReal) = (r : EReal)) ∧ ∀ i, (l i).toNat < 32768 := by
  have h0 := congrFun h ix0
  unfold Cert.Pre_inputs_ok_KernelIdeal.fn Cert.Pre_inputs_ok_KernelIdeal.fn_part1 at h0
  obtain ⟨hxw, hl⟩ := IntOp.andi_eq_one.1 h0
  obtain ⟨hx, hw⟩ := IntOp.andi_eq_one.1 hxw
  refine ⟨fun i => ?_, fun i => ?_, fun i => ?_⟩
  · exact real_of_abs_lt (x i) (Host.reduce_andi_all _ _ _ _ _ hx i)
  · exact real_of_abs_lt (w i) (Host.reduce_andi_all _ _ _ _ _ hw i)
  · obtain ⟨h1, h2⟩ := IntOp.andi_eq_one.1 (Host.reduce_andi_all _ _ _ _ _ hl i)
    have h1' : BitVec.sle 0#32 (l i) = true := (StableHlo.Predicate.ofBool_eq_one_iff _).mp h1
    have h2' : BitVec.slt (l i) (BitVec.ofNat 32 32768) = true := (StableHlo.Predicate.ofBool_eq_one_iff _).mp h2
    exact WordArith.toNat_lt_of_zero_sle_of_slt_ofNat _ _ (by decide) h1' h2'

end Cert.Inputs

end
-- ==== Proof.Claims.lean ====
/-
The claims about the reference's run and the claim that joins the two programs.
-/
module

public import proofs.«01_k».proof.Proof.Frames
public import proofs.«01_k».proof.Proof.Equation
public import proofs.«01_k».proof.Proof.Inputs
public import proofs.«01_k».proof.Proof.Gen.Pre_inputs_ok_ReferenceIdeal
public import Idealize.ShloMosaic.Lib.Quiescent

@[expose] public section

noncomputable section

namespace Cert.Loss

open Idealize.ShloMosaic Idealize.SL.Sem
open Cert.Kernel.Gen Cert.KernelIdeal.Gen Cert.ReferenceIdeal.Gen Cert.Pre_inputs_ok_KernelIdeal.Gen Cert.Pre_inputs_ok_ReferenceIdeal.Gen

/-- The reference runs and keeps its arguments; it has no semaphore, so all its counters are zero. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- From finite activations and weights, and labels in the vocabulary, every device of the kernel returns the reference's
loss of all tokens. -/
theorem same_loss : Cert.algebraic_KernelIdeal_ReferenceIdeal_pre_inputs_ok_KernelIdeal := fun m g m' g' hpre hin => by
  have parts := fun c => Inputs.taken_apart _ _ _ (hpre c)
  -- every column of the weights lies in some device's block
  have hw : ∀ i, ∃ r : ℝ, (m' (((0 : Dev Cert.ReferenceIdeal.nD).tc : Thread Cert.ReferenceIdeal.nD Cert.ReferenceIdeal.τ).loc
      Cert.ReferenceIdeal.main_arg1) i : EReal) = (r : EReal) := fun i => by
    obtain ⟨j, v, rfl⟩ : ∃ (j : Fin 512) (v : Fin 32768), i = ValueIdx.ix2 j v := ⟨i 0, i 1, ValueIdx.eq_ix2 i⟩
    have hv := v.isLt
    have hd : v.val / 4096 < 8 := by omega
    have hk : v.val % 4096 < 4096 := by omega
    obtain ⟨r, hr⟩ := (parts ⟨v.val / 4096, hd⟩).2.1 (ValueIdx.ix2 j ⟨v.val % 4096, hk⟩)
    refine ⟨r, Eq.trans ?_ hr⟩
    rw [(hin ⟨v.val / 4096, hd⟩).2.1]
    refine Eq.trans ?_ (block_column _ ⟨v.val / 4096, hd⟩ j ⟨v.val % 4096, hk⟩).symm
    exact congrArg _ (congrArg (ValueIdx.ix2 j) (Fin.ext (Nat.div_add_mod v.val 4096).symm))
  have hx : ∀ i, ∃ r : ℝ, (m' (((0 : Dev Cert.ReferenceIdeal.nD).tc : Thread Cert.ReferenceIdeal.nD Cert.ReferenceIdeal.τ).loc
      Cert.ReferenceIdeal.main_arg0) i : EReal) = (r : EReal) := (hin 0).1 ▸ (parts 0).1
  have hl : ∀ i, (m' (((0 : Dev Cert.ReferenceIdeal.nD).tc : Thread Cert.ReferenceIdeal.nD Cert.ReferenceIdeal.τ).loc
      Cert.ReferenceIdeal.main_arg2) i : BitVec 32).toNat < 32768 := (hin 0).2.2 ▸ (parts 0).2.2
  refine ⟨Cert.ReferenceIdeal.Read.val_main_v28 (F := Ideal) _ _ _,
    (θ_run Cert.KernelIdeal.defs _ _).mono (fun r h c => ⟨(h.1 c).1.trans ?_, (h.1 c).2⟩) (Exchange.run_main (F := Ideal) m g),
    (θ_run Cert.ReferenceIdeal.defs _ _).mono (fun r h => ⟨(h 0).1.trans (Cert.ReferenceIdeal.Read.val_main_v28_eq _ _ _), (h 0).2⟩)
      (Cert.ReferenceIdeal.Value.run m' g')⟩
  exact result_eq m _ _ _ (fun d => (Exchange.xIn_eq m d).trans (hin d).1) (fun d => (Exchange.wIn_eq m d).trans (hin d).2.1)
    (fun d => (Exchange.lIn_eq m d).trans (hin d).2.2) hx hw hl c

end Cert.Loss

end
-- ==== Proof.lean ====
/-
The certificate of the vocabulary-parallel cross entropy: the frames of the three programs, the idealization, which
changes nothing, and the equation of the eight devices' results with the reference's loss.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Claims
public import proofs.«01_k».proof.Proof.Gen.Pre_inputs_ok_KernelIdeal
public import proofs.«01_k».proof.Proof.Gen.Pre_inputs_ok_ReferenceIdeal
public import Idealize.ShloMosaic.Adequacy
public import Idealize.ShloMosaic.Init

@[expose] public section

noncomputable section

namespace Cert.Proof

open Idealize.ShloMosaic Idealize.SL.Sem Cert.Kernel

/-- All the claims: each program ends without fault and leaves its arguments and counters as it must, the ideal program is
the kernel, and over the extended reals every device returns the reference's loss. -/
theorem claim : Cert.Claim := ⟨Cert.Kernel.Gen.facts, Cert.KernelIdeal.Gen.facts, Cert.ReferenceIdeal.Gen.facts, Cert.Pre_inputs_ok_KernelIdeal.Gen.facts, Cert.Pre_inputs_ok_ReferenceIdeal.Gen.facts,
  Exchange.frame_kernel, Exchange.frame_ideal, fun m g _ => Exchange.frame_ideal m g trivial,
  Loss.frame_reference, fun m g _ => Loss.frame_reference m g trivial, trivial, Loss.same_loss⟩

end Cert.Proof

end
